-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v954) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S128 : Shape := ⟨1, ![128]⟩
abbrev S128x1 : Shape := ⟨2, ![128, 1]⟩
abbrev S4x64x128 : Shape := ⟨3, ![4, 64, 128]⟩
abbrev S4x1x1 : Shape := ⟨3, ![4, 1, 1]⟩
abbrev S4 : Shape := ⟨1, ![4]⟩
abbrev S128x128 : Shape := ⟨2, ![128, 128]⟩
abbrev S64x1 : Shape := ⟨2, ![64, 1]⟩
abbrev S1x64x128 : Shape := ⟨3, ![1, 64, 128]⟩
abbrev S64x128 : Shape := ⟨2, ![64, 128]⟩
abbrev S1x8192 : Shape := ⟨2, ![1, 8192]⟩
abbrev S64x8192 : Shape := ⟨2, ![64, 8192]⟩
abbrev S128x8192 : Shape := ⟨2, ![128, 8192]⟩
abbrev S1x128 : Shape := ⟨2, ![1, 128]⟩
abbrev S63x128 : Shape := ⟨2, ![63, 128]⟩
abbrev S4x8192 : Shape := ⟨2, ![4, 8192]⟩
abbrev S_ : Shape := ⟨0, ![]⟩

abbrev nBuf : Space → Nat
  | .hbm => 9
  | .vmem => 2
  | .smem => 0
  | _ => 0

abbrev bufTy : (tb : Table) → Fin (tcTables nBuf tb) → BufTy
  | .hbm, ⟨0, _⟩ => ⟨S4x8192x1024, .f32⟩
  | .hbm, ⟨1, _⟩ => ⟨S128, .f32⟩
  | .hbm, ⟨2, _⟩ => ⟨S128x1, .f32⟩
  | .hbm, ⟨3, _⟩ => ⟨S4x64x128, .i8⟩
  | .hbm, ⟨4, _⟩ => ⟨S4x8192, .i8⟩
  | .hbm, ⟨5, _⟩ => ⟨S_, .i8⟩
  | .hbm, ⟨6, _⟩ => ⟨S4x8192, .i8⟩
  | .hbm, ⟨7, _⟩ => ⟨S4x8192, .i1⟩
  | .hbm, ⟨8, _⟩ => ⟨S4x8192, .i1⟩
  | .local _ .vmem, ⟨0, _⟩ => ⟨S128x1, .f32⟩
  | .local _ .vmem, ⟨1, _⟩ => ⟨S4x64x128, .i8⟩
  | _, _ => ⟨S4x8192x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_276 : BitVec 32 := 0#32
  let c32_i32 : BitVec 32 := 32#32
  let v1025 : BitVec 32 := Scalar.addi c0_i32_276 c32_i32
  let c1_i32_277 : BitVec 32 := 1#32
  ⟨c0_i32_276, v1025, c1_i32_277⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S128x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x64x128 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S4x8192x1024 : Shape := ⟨3, ![4, 8192, 1024]⟩
abbrev S_ : Shape := ⟨0, ![]⟩
abbrev S1 : Shape := ⟨1, ![1]⟩
abbrev S4 : Shape := ⟨1, ![4]⟩
abbrev S8183 : Shape := ⟨1, ![8183]⟩
abbrev S4x8183 : Shape := ⟨2, ![4, 8183]⟩
abbrev S4x1 : Shape := ⟨2, ![4, 1]⟩
abbrev S2 : Shape := ⟨1, ![2]⟩
abbrev S4x2 : Shape := ⟨2, ![4, 2]⟩
abbrev S4x54 : Shape := ⟨2, ![4, 54]⟩
abbrev S4x54x1 : Shape := ⟨3, ![4, 54, 1]⟩
abbrev S10 : Shape := ⟨1, ![10]⟩
abbrev S1x1x10 : Shape := ⟨3, ![1, 1, 10]⟩
abbrev S4x54x10 : Shape := ⟨3, ![4, 54, 10]⟩
abbrev S4x1x1 : Shape := ⟨3, ![4, 1, 1]⟩
abbrev S2160 : Shape := ⟨1, ![2160]⟩
abbrev S32768 : Shape := ⟨1, ![32768]⟩
abbrev S2160x1 : Shape := ⟨2, ![2160, 1]⟩
abbrev S4x8192 : Shape := ⟨2, ![4, 8192]⟩

abbrev nBuf : Space → Nat
  | .hbm => 1200
  | .vmem => 0
  | .smem => 0
  | _ => 0

abbrev hbmTy0_0 (i : Nat) : BufTy := match i % 128 with
  | 0 => ⟨S4x8192x1024, .f32⟩
  | 1 => ⟨S_, .i32⟩
  | 2 => ⟨S1, .i32⟩
  | 3 => ⟨S_, .i32⟩
  | 4 => ⟨S1, .i32⟩
  | 5 => ⟨S4, .i32⟩
  | 6 => ⟨S_, .i32⟩
  | 7 => ⟨S4, .i32⟩
  | 8 => ⟨S1, .i32⟩
  | 9 => ⟨S_, .i32⟩
  | 10 => ⟨S1, .i32⟩
  | 11 => ⟨S1, .i32⟩
  | 12 => ⟨S4, .i32⟩
  | 13 => ⟨S4, .i32⟩
  | 14 => ⟨S4, .i32⟩
  | 15 => ⟨S4, .i32⟩
  | 16 => ⟨S4, .i32⟩
  | 17 => ⟨S_, .i32⟩
  | 18 => ⟨S4, .i32⟩
  | 19 => ⟨S4, .i32⟩
  | 20 => ⟨S_, .i32⟩
  | 21 => ⟨S4, .i32⟩
  | 22 => ⟨S4, .i32⟩
  | 23 => ⟨S4, .i32⟩
  | 24 => ⟨S4, .i32⟩
  | 25 => ⟨S4, .i32⟩
  | 26 => ⟨S_, .i32⟩
  | 27 => ⟨S4, .i32⟩
  | 28 => ⟨S4, .i32⟩
  | 29 => ⟨S_, .i32⟩
  | 30 => ⟨S4, .i32⟩
  | 31 => ⟨S4, .i32⟩
  | 32 => ⟨S4, .i32⟩
  | 33 => ⟨S4, .i32⟩
  | 34 => ⟨S4, .i32⟩
  | 35 => ⟨S_, .i32⟩
  | 36 => ⟨S4, .i32⟩
  | 37 => ⟨S4, .i32⟩
  | 38 => ⟨S_, .i32⟩
  | 39 => ⟨S4, .i32⟩
  | 40 => ⟨S4, .i32⟩
  | 41 => ⟨S4, .i32⟩
  | 42 => ⟨S4, .i32⟩
  | 43 => ⟨S4, .i32⟩
  | 44 => ⟨S_, .i32⟩
  | 45 => ⟨S4, .i32⟩
  | 46 => ⟨S4, .i32⟩
  | 47 => ⟨S_, .i32⟩
  | 48 => ⟨S4, .i32⟩
  | 49 => ⟨S4, .i32⟩
  | 50 => ⟨S4, .i32⟩
  | 51 => ⟨S4, .i32⟩
  | 52 => ⟨S4, .i32⟩
  | 53 => ⟨S4, .i32⟩
  | 54 => ⟨S4, .i32⟩
  | 55 => ⟨S4, .i32⟩
  | 56 => ⟨S_, .i32⟩
  | 57 => ⟨S4, .i32⟩
  | 58 => ⟨S4, .i32⟩
  | 59 => ⟨S4, .i32⟩
  | 60 => ⟨S_, .i32⟩
  | 61 => ⟨S4, .i32⟩
  | 62 => ⟨S4, .i32⟩
  | 63 => ⟨S_, .i32⟩
  | 64 => ⟨S4, .i32⟩
  | 65 => ⟨S4, .i32⟩
  | 66 => ⟨S4, .i32⟩
  | 67 => ⟨S4, .i32⟩
  | 68 => ⟨S4, .i32⟩
  | 69 => ⟨S_, .i32⟩
  | 70 => ⟨S4, .i32⟩
  | 71 => ⟨S4, .i32⟩
  | 72 => ⟨S_, .i32⟩
  | 73 => ⟨S4, .i32⟩
  | 74 => ⟨S4, .i32⟩
  | 75 => ⟨S4, .i32⟩
  | 76 => ⟨S4, .i32⟩
  | 77 => ⟨S4, .i32⟩
  | 78 => ⟨S_, .i32⟩
  | 79 => ⟨S4, .i32⟩
  | 80 => ⟨S4, .i32⟩
  | 81 => ⟨S_, .i32⟩
  | 82 => ⟨S4, .i32⟩
  | 83 => ⟨S4, .i32⟩
  | 84 => ⟨S4, .i32⟩
  | 85 => ⟨S4, .i32⟩
  | 86 => ⟨S4, .i32⟩
  | 87 => ⟨S_, .i32⟩
  | 88 => ⟨S4, .i32⟩
  | 89 => ⟨S4, .i32⟩
  | 90 => ⟨S_, .i32⟩
  | 91 => ⟨S4, .i32⟩
  | 92 => ⟨S4, .i32⟩
  | 93 => ⟨S4, .i32⟩
  | 94 => ⟨S4, .i32⟩
  | 95 => ⟨S4, .i32⟩
  | 96 => ⟨S4, .i32⟩
  | 97 => ⟨S4, .i32⟩
  | 98 => ⟨S4, .i32⟩
  | 99 => ⟨S_, .i32⟩
  | 100 => ⟨S4, .i32⟩
  | 101 => ⟨S4, .i32⟩
  | 102 => ⟨S4, .i32⟩
  | 103 => ⟨S_, .i32⟩
  | 104 => ⟨S4, .i32⟩
  | 105 => ⟨S4, .i32⟩
  | 106 => ⟨S_, .i32⟩
  | 107 => ⟨S4, .i32⟩
  | 108 => ⟨S4, .i32⟩
  | 109 => ⟨S4, .i32⟩
  | 110 => ⟨S4, .i32⟩
  | 111 => ⟨S4, .i32⟩
  | 112 => ⟨S_, .i32⟩
  | 113 => ⟨S4, .i32⟩
  | 114 => ⟨S4, .i32⟩
  | 115 => ⟨S_, .i32⟩
  | 116 => ⟨S4, .i32⟩
  | 117 => ⟨S4, .i32⟩
  | 118 => ⟨S4, .i32⟩
  | 119 => ⟨S4, .i32⟩
  | 120 => ⟨S4, .i32⟩
  | 121 => ⟨S_, .i32⟩
  | 122 => ⟨S4, .i32⟩
  | 123 => ⟨S4, .i32⟩
  | 124 => ⟨S_, .i32⟩
  | 125 => ⟨S4, .i32⟩
  | 126 => ⟨S4, .i32⟩
  | 127 => ⟨S4, .i32⟩
  | _ => ⟨S4x8192x1024, .f32⟩

abbrev hbmTy0_1 (i : Nat) : BufTy := match i % 128 with
  | 0 => ⟨S4, .i32⟩
  | 1 => ⟨S4, .i32⟩
  | 2 => ⟨S_, .i32⟩
  | 3 => ⟨S4, .i32⟩
  | 4 => ⟨S4, .i32⟩
  | 5 => ⟨S_, .i32⟩
  | 6 => ⟨S4, .i32⟩
  | 7 => ⟨S4, .i32⟩
  | 8 => ⟨S4, .i32⟩
  | 9 => ⟨S4, .i32⟩
  | 10 => ⟨S4, .i32⟩
  | 11 => ⟨S4, .i32⟩
  | 12 => ⟨S4, .i32⟩
  | 13 => ⟨S4, .i32⟩
  | 14 => ⟨S_, .i32⟩
  | 15 => ⟨S4, .i32⟩
  | 16 => ⟨S4, .i32⟩
  | 17 => ⟨S4, .i32⟩
  | 18 => ⟨S_, .i32⟩
  | 19 => ⟨S4, .i32⟩
  | 20 => ⟨S4, .i32⟩
  | 21 => ⟨S_, .i32⟩
  | 22 => ⟨S4, .i32⟩
  | 23 => ⟨S4, .i32⟩
  | 24 => ⟨S4, .i32⟩
  | 25 => ⟨S4, .i32⟩
  | 26 => ⟨S4, .i32⟩
  | 27 => ⟨S_, .i32⟩
  | 28 => ⟨S4, .i32⟩
  | 29 => ⟨S4, .i32⟩
  | 30 => ⟨S_, .i32⟩
  | 31 => ⟨S4, .i32⟩
  | 32 => ⟨S4, .i32⟩
  | 33 => ⟨S4, .i32⟩
  | 34 => ⟨S4, .i32⟩
  | 35 => ⟨S4, .i32⟩
  | 36 => ⟨S_, .i32⟩
  | 37 => ⟨S4, .i32⟩
  | 38 => ⟨S4, .i32⟩
  | 39 => ⟨S_, .i32⟩
  | 40 => ⟨S4, .i32⟩
  | 41 => ⟨S4, .i32⟩
  | 42 => ⟨S4, .i32⟩
  | 43 => ⟨S4, .i32⟩
  | 44 => ⟨S4, .i32⟩
  | 45 => ⟨S_, .i32⟩
  | 46 => ⟨S4, .i32⟩
  | 47 => ⟨S4, .i32⟩
  | 48 => ⟨S_, .i32⟩
  | 49 => ⟨S4, .i32⟩
  | 50 => ⟨S4, .i32⟩
  | 51 => ⟨S4, .i32⟩
  | 52 => ⟨S4, .i32⟩
  | 53 => ⟨S4, .i32⟩
  | 54 => ⟨S4, .i32⟩
  | 55 => ⟨S4, .i32⟩
  | 56 => ⟨S4, .i32⟩
  | 57 => ⟨S_, .i32⟩
  | 58 => ⟨S4, .i32⟩
  | 59 => ⟨S4, .i32⟩
  | 60 => ⟨S4, .i32⟩
  | 61 => ⟨S_, .i32⟩
  | 62 => ⟨S4, .i32⟩
  | 63 => ⟨S4, .i32⟩
  | 64 => ⟨S_, .i32⟩
  | 65 => ⟨S4, .i32⟩
  | 66 => ⟨S4, .i32⟩
  | 67 => ⟨S4, .i32⟩
  | 68 => ⟨S4, .i32⟩
  | 69 => ⟨S4, .i32⟩
  | 70 => ⟨S_, .i32⟩
  | 71 => ⟨S4, .i32⟩
  | 72 => ⟨S4, .i32⟩
  | 73 => ⟨S_, .i32⟩
  | 74 => ⟨S4, .i32⟩
  | 75 => ⟨S4, .i32⟩
  | 76 => ⟨S4, .i32⟩
  | 77 => ⟨S4, .i32⟩
  | 78 => ⟨S4, .i32⟩
  | 79 => ⟨S_, .i32⟩
  | 80 => ⟨S4, .i32⟩
  | 81 => ⟨S4, .i32⟩
  | 82 => ⟨S_, .i32⟩
  | 83 => ⟨S4, .i32⟩
  | 84 => ⟨S4, .i32⟩
  | 85 => ⟨S4, .i32⟩
  | 86 => ⟨S4, .i32⟩
  | 87 => ⟨S4, .i32⟩
  | 88 => ⟨S_, .i32⟩
  | 89 => ⟨S4, .i32⟩
  | 90 => ⟨S4, .i32⟩
  | 91 => ⟨S_, .i32⟩
  | 92 => ⟨S4, .i32⟩
  | 93 => ⟨S4, .i32⟩
  | 94 => ⟨S4, .i32⟩
  | 95 => ⟨S4, .i32⟩
  | 96 => ⟨S4, .i32⟩
  | 97 => ⟨S4, .i32⟩
  | 98 => ⟨S4, .i32⟩
  | 99 => ⟨S4, .i32⟩
  | 100 => ⟨S_, .i32⟩
  | 101 => ⟨S4, .i32⟩
  | 102 => ⟨S4, .i32⟩
  | 103 => ⟨S8183, .i32⟩
  | 104 => ⟨S4x8183, .i32⟩
  | 105 => ⟨S4x1, .i32⟩
  | 106 => ⟨S4x1, .i32⟩
  | 107 => ⟨S2, .i32⟩
  | 108 => ⟨S4x2, .i32⟩
  | 109 => ⟨S_, .i32⟩
  | 110 => ⟨S4x2, .i32⟩
  | 111 => ⟨S4x1, .i32⟩
  | 112 => ⟨S_, .i32⟩
  | 113 => ⟨S4x1, .i32⟩
  | 114 => ⟨S4x1, .i32⟩
  | 115 => ⟨S4x2, .i32⟩
  | 116 => ⟨S4x2, .i32⟩
  | 117 => ⟨S4x2, .i32⟩
  | 118 => ⟨S4x2, .i32⟩
  | 119 => ⟨S4x2, .i32⟩
  | 120 => ⟨S_, .i32⟩
  | 121 => ⟨S4x2, .i32⟩
  | 122 => ⟨S4x2, .i32⟩
  | 123 => ⟨S_, .i32⟩
  | 124 => ⟨S4x2, .i32⟩
  | 125 => ⟨S4x2, .i32⟩
  | 126 => ⟨S4x2, .i32⟩
  | 127 => ⟨S4x2, .i32⟩
  | _ => ⟨S4x8192x1024, .f32⟩

abbrev hbmTy0_2 (i : Nat) : BufTy := match i % 128 with
  | 0 => ⟨S4x2, .i32⟩
  | 1 => ⟨S_, .i32⟩
  | 2 => ⟨S4x2, .i32⟩
  | 3 => ⟨S4x2, .i32⟩
  | 4 => ⟨S_, .i32⟩
  | 5 => ⟨S4x2, .i32⟩
  | 6 => ⟨S4x2, .i32⟩
  | 7 => ⟨S4x2, .i32⟩
  | 8 => ⟨S4x2, .i32⟩
  | 9 => ⟨S4x2, .i32⟩
  | 10 => ⟨S_, .i32⟩
  | 11 => ⟨S4x2, .i32⟩
  | 12 => ⟨S4x2, .i32⟩
  | 13 => ⟨S_, .i32⟩
  | 14 => ⟨S4x2, .i32⟩
  | 15 => ⟨S4x2, .i32⟩
  | 16 => ⟨S4x2, .i32⟩
  | 17 => ⟨S4x2, .i32⟩
  | 18 => ⟨S4x2, .i32⟩
  | 19 => ⟨S_, .i32⟩
  | 20 => ⟨S4x2, .i32⟩
  | 21 => ⟨S4x2, .i32⟩
  | 22 => ⟨S_, .i32⟩
  | 23 => ⟨S4x2, .i32⟩
  | 24 => ⟨S4x2, .i32⟩
  | 25 => ⟨S4x2, .i32⟩
  | 26 => ⟨S4x2, .i32⟩
  | 27 => ⟨S4x2, .i32⟩
  | 28 => ⟨S4x2, .i32⟩
  | 29 => ⟨S4x2, .i32⟩
  | 30 => ⟨S4x2, .i32⟩
  | 31 => ⟨S_, .i32⟩
  | 32 => ⟨S4x2, .i32⟩
  | 33 => ⟨S4x2, .i32⟩
  | 34 => ⟨S4x2, .i32⟩
  | 35 => ⟨S_, .i32⟩
  | 36 => ⟨S4x2, .i32⟩
  | 37 => ⟨S4x2, .i32⟩
  | 38 => ⟨S_, .i32⟩
  | 39 => ⟨S4x2, .i32⟩
  | 40 => ⟨S4x2, .i32⟩
  | 41 => ⟨S4x2, .i32⟩
  | 42 => ⟨S4x2, .i32⟩
  | 43 => ⟨S4x2, .i32⟩
  | 44 => ⟨S_, .i32⟩
  | 45 => ⟨S4x2, .i32⟩
  | 46 => ⟨S4x2, .i32⟩
  | 47 => ⟨S_, .i32⟩
  | 48 => ⟨S4x2, .i32⟩
  | 49 => ⟨S4x2, .i32⟩
  | 50 => ⟨S4x2, .i32⟩
  | 51 => ⟨S4x2, .i32⟩
  | 52 => ⟨S4x2, .i32⟩
  | 53 => ⟨S_, .i32⟩
  | 54 => ⟨S4x2, .i32⟩
  | 55 => ⟨S4x2, .i32⟩
  | 56 => ⟨S_, .i32⟩
  | 57 => ⟨S4x2, .i32⟩
  | 58 => ⟨S4x2, .i32⟩
  | 59 => ⟨S4x2, .i32⟩
  | 60 => ⟨S4x2, .i32⟩
  | 61 => ⟨S4x2, .i32⟩
  | 62 => ⟨S_, .i32⟩
  | 63 => ⟨S4x2, .i32⟩
  | 64 => ⟨S4x2, .i32⟩
  | 65 => ⟨S_, .i32⟩
  | 66 => ⟨S4x2, .i32⟩
  | 67 => ⟨S4x2, .i32⟩
  | 68 => ⟨S4x2, .i32⟩
  | 69 => ⟨S4x2, .i32⟩
  | 70 => ⟨S4x2, .i32⟩
  | 71 => ⟨S4x2, .i32⟩
  | 72 => ⟨S4x2, .i32⟩
  | 73 => ⟨S4x2, .i32⟩
  | 74 => ⟨S_, .i32⟩
  | 75 => ⟨S4x2, .i32⟩
  | 76 => ⟨S4x2, .i32⟩
  | 77 => ⟨S4x2, .i32⟩
  | 78 => ⟨S_, .i32⟩
  | 79 => ⟨S4x2, .i32⟩
  | 80 => ⟨S4x2, .i32⟩
  | 81 => ⟨S_, .i32⟩
  | 82 => ⟨S4x2, .i32⟩
  | 83 => ⟨S4x2, .i32⟩
  | 84 => ⟨S4x2, .i32⟩
  | 85 => ⟨S4x2, .i32⟩
  | 86 => ⟨S4x2, .i32⟩
  | 87 => ⟨S_, .i32⟩
  | 88 => ⟨S4x2, .i32⟩
  | 89 => ⟨S4x2, .i32⟩
  | 90 => ⟨S_, .i32⟩
  | 91 => ⟨S4x2, .i32⟩
  | 92 => ⟨S4x2, .i32⟩
  | 93 => ⟨S4x2, .i32⟩
  | 94 => ⟨S4x2, .i32⟩
  | 95 => ⟨S4x2, .i32⟩
  | 96 => ⟨S_, .i32⟩
  | 97 => ⟨S4x2, .i32⟩
  | 98 => ⟨S4x2, .i32⟩
  | 99 => ⟨S_, .i32⟩
  | 100 => ⟨S4x2, .i32⟩
  | 101 => ⟨S4x2, .i32⟩
  | 102 => ⟨S4x2, .i32⟩
  | 103 => ⟨S4x2, .i32⟩
  | 104 => ⟨S4x2, .i32⟩
  | 105 => ⟨S_, .i32⟩
  | 106 => ⟨S4x2, .i32⟩
  | 107 => ⟨S4x2, .i32⟩
  | 108 => ⟨S_, .i32⟩
  | 109 => ⟨S4x2, .i32⟩
  | 110 => ⟨S4x2, .i32⟩
  | 111 => ⟨S4x2, .i32⟩
  | 112 => ⟨S4x2, .i32⟩
  | 113 => ⟨S4x2, .i32⟩
  | 114 => ⟨S4x2, .i32⟩
  | 115 => ⟨S4x2, .i32⟩
  | 116 => ⟨S4x2, .i32⟩
  | 117 => ⟨S_, .i32⟩
  | 118 => ⟨S4x2, .i32⟩
  | 119 => ⟨S4x2, .i32⟩
  | 120 => ⟨S4x2, .i32⟩
  | 121 => ⟨S_, .i32⟩
  | 122 => ⟨S4x2, .i32⟩
  | 123 => ⟨S4x2, .i32⟩
  | 124 => ⟨S_, .i32⟩
  | 125 => ⟨S4x2, .i32⟩
  | 126 => ⟨S4x2, .i32⟩
  | 127 => ⟨S4x2, .i32⟩
  | _ => ⟨S4x8192x1024, .f32⟩

abbrev hbmTy0_3 (i : Nat) : BufTy := match i % 128 with
  | 0 => ⟨S4x2, .i32⟩
  | 1 => ⟨S4x2, .i32⟩
  | 2 => ⟨S_, .i32⟩
  | 3 => ⟨S4x2, .i32⟩
  | 4 => ⟨S4x2, .i32⟩
  | 5 => ⟨S_, .i32⟩
  | 6 => ⟨S4x2, .i32⟩
  | 7 => ⟨S4x2, .i32⟩
  | 8 => ⟨S4x2, .i32⟩
  | 9 => ⟨S4x2, .i32⟩
  | 10 => ⟨S4x2, .i32⟩
  | 11 => ⟨S_, .i32⟩
  | 12 => ⟨S4x2, .i32⟩
  | 13 => ⟨S4x2, .i32⟩
  | 14 => ⟨S_, .i32⟩
  | 15 => ⟨S4x2, .i32⟩
  | 16 => ⟨S4x2, .i32⟩
  | 17 => ⟨S4x2, .i32⟩
  | 18 => ⟨S4x2, .i32⟩
  | 19 => ⟨S4x2, .i32⟩
  | 20 => ⟨S_, .i32⟩
  | 21 => ⟨S4x2, .i32⟩
  | 22 => ⟨S4x2, .i32⟩
  | 23 => ⟨S_, .i32⟩
  | 24 => ⟨S4x2, .i32⟩
  | 25 => ⟨S4x2, .i32⟩
  | 26 => ⟨S4x2, .i32⟩
  | 27 => ⟨S4x2, .i32⟩
  | 28 => ⟨S4x2, .i32⟩
  | 29 => ⟨S4x2, .i32⟩
  | 30 => ⟨S4x2, .i32⟩
  | 31 => ⟨S4x2, .i32⟩
  | 32 => ⟨S_, .i32⟩
  | 33 => ⟨S4x2, .i32⟩
  | 34 => ⟨S4x2, .i32⟩
  | 35 => ⟨S4x2, .i32⟩
  | 36 => ⟨S_, .i32⟩
  | 37 => ⟨S4x2, .i32⟩
  | 38 => ⟨S4x2, .i32⟩
  | 39 => ⟨S_, .i32⟩
  | 40 => ⟨S4x2, .i32⟩
  | 41 => ⟨S4x2, .i32⟩
  | 42 => ⟨S4x2, .i32⟩
  | 43 => ⟨S4x2, .i32⟩
  | 44 => ⟨S4x2, .i32⟩
  | 45 => ⟨S_, .i32⟩
  | 46 => ⟨S4x2, .i32⟩
  | 47 => ⟨S4x2, .i32⟩
  | 48 => ⟨S_, .i32⟩
  | 49 => ⟨S4x2, .i32⟩
  | 50 => ⟨S4x2, .i32⟩
  | 51 => ⟨S4x2, .i32⟩
  | 52 => ⟨S4x2, .i32⟩
  | 53 => ⟨S4x2, .i32⟩
  | 54 => ⟨S_, .i32⟩
  | 55 => ⟨S4x2, .i32⟩
  | 56 => ⟨S4x2, .i32⟩
  | 57 => ⟨S_, .i32⟩
  | 58 => ⟨S4x2, .i32⟩
  | 59 => ⟨S4x2, .i32⟩
  | 60 => ⟨S4x2, .i32⟩
  | 61 => ⟨S4x2, .i32⟩
  | 62 => ⟨S4x2, .i32⟩
  | 63 => ⟨S_, .i32⟩
  | 64 => ⟨S4x2, .i32⟩
  | 65 => ⟨S4x2, .i32⟩
  | 66 => ⟨S_, .i32⟩
  | 67 => ⟨S4x2, .i32⟩
  | 68 => ⟨S4x2, .i32⟩
  | 69 => ⟨S4x2, .i32⟩
  | 70 => ⟨S4x2, .i32⟩
  | 71 => ⟨S4x2, .i32⟩
  | 72 => ⟨S4x2, .i32⟩
  | 73 => ⟨S4x2, .i32⟩
  | 74 => ⟨S4x2, .i32⟩
  | 75 => ⟨S_, .i32⟩
  | 76 => ⟨S4x2, .i32⟩
  | 77 => ⟨S4x2, .i32⟩
  | 78 => ⟨S4x1, .i32⟩
  | 79 => ⟨S4, .i32⟩
  | 80 => ⟨S4x1, .i32⟩
  | 81 => ⟨S4, .i32⟩
  | 82 => ⟨S4x1, .i32⟩
  | 83 => ⟨S4, .i32⟩
  | 84 => ⟨S4x1, .i32⟩
  | 85 => ⟨S4, .i32⟩
  | 86 => ⟨S4x1, .i32⟩
  | 87 => ⟨S4x1, .i32⟩
  | 88 => ⟨S8183, .i32⟩
  | 89 => ⟨S4x8183, .i32⟩
  | 90 => ⟨S_, .i32⟩
  | 91 => ⟨S4x8183, .i32⟩
  | 92 => ⟨S4x1, .i32⟩
  | 93 => ⟨S_, .i32⟩
  | 94 => ⟨S4x1, .i32⟩
  | 95 => ⟨S4x1, .i32⟩
  | 96 => ⟨S4x8183, .i32⟩
  | 97 => ⟨S4x8183, .i32⟩
  | 98 => ⟨S4x8183, .i32⟩
  | 99 => ⟨S4x8183, .i32⟩
  | 100 => ⟨S4x8183, .i32⟩
  | 101 => ⟨S_, .i32⟩
  | 102 => ⟨S4x8183, .i32⟩
  | 103 => ⟨S4x8183, .i32⟩
  | 104 => ⟨S_, .i32⟩
  | 105 => ⟨S4x8183, .i32⟩
  | 106 => ⟨S4x8183, .i32⟩
  | 107 => ⟨S4x8183, .i32⟩
  | 108 => ⟨S4x8183, .i32⟩
  | 109 => ⟨S4x8183, .i32⟩
  | 110 => ⟨S_, .i32⟩
  | 111 => ⟨S4x8183, .i32⟩
  | 112 => ⟨S4x8183, .i32⟩
  | 113 => ⟨S_, .i32⟩
  | 114 => ⟨S4x8183, .i32⟩
  | 115 => ⟨S4x8183, .i32⟩
  | 116 => ⟨S4x8183, .i32⟩
  | 117 => ⟨S4x8183, .i32⟩
  | 118 => ⟨S4x8183, .i32⟩
  | 119 => ⟨S_, .i32⟩
  | 120 => ⟨S4x8183, .i32⟩
  | 121 => ⟨S4x8183, .i32⟩
  | 122 => ⟨S_, .i32⟩
  | 123 => ⟨S4x8183, .i32⟩
  | 124 => ⟨S4x8183, .i32⟩
  | 125 => ⟨S4x8183, .i32⟩
  | 126 => ⟨S4x8183, .i32⟩
  | 127 => ⟨S4x8183, .i32⟩
  | _ => ⟨S4x8192x1024, .f32⟩

abbrev hbmTy0_4 (i : Nat) : BufTy := match i % 128 with
  | 0 => ⟨S_, .i32⟩
  | 1 => ⟨S4x8183, .i32⟩
  | 2 => ⟨S4x8183, .i32⟩
  | 3 => ⟨S_, .i32⟩
  | 4 => ⟨S4x8183, .i32⟩
  | 5 => ⟨S4x8183, .i32⟩
  | 6 => ⟨S4x8183, .i32⟩
  | 7 => ⟨S4x8183, .i32⟩
  | 8 => ⟨S4x8183, .i32⟩
  | 9 => ⟨S4x8183, .i32⟩
  | 10 => ⟨S4x8183, .i32⟩
  | 11 => ⟨S4x8183, .i32⟩
  | 12 => ⟨S_, .i32⟩
  | 13 => ⟨S4x8183, .i32⟩
  | 14 => ⟨S4x8183, .i32⟩
  | 15 => ⟨S4x8183, .i32⟩
  | 16 => ⟨S_, .i32⟩
  | 17 => ⟨S4x8183, .i32⟩
  | 18 => ⟨S4x8183, .i32⟩
  | 19 => ⟨S_, .i32⟩
  | 20 => ⟨S4x8183, .i32⟩
  | 21 => ⟨S4x8183, .i32⟩
  | 22 => ⟨S4x8183, .i32⟩
  | 23 => ⟨S4x8183, .i32⟩
  | 24 => ⟨S4x8183, .i32⟩
  | 25 => ⟨S_, .i32⟩
  | 26 => ⟨S4x8183, .i32⟩
  | 27 => ⟨S4x8183, .i32⟩
  | 28 => ⟨S_, .i32⟩
  | 29 => ⟨S4x8183, .i32⟩
  | 30 => ⟨S4x8183, .i32⟩
  | 31 => ⟨S4x8183, .i32⟩
  | 32 => ⟨S4x8183, .i32⟩
  | 33 => ⟨S4x8183, .i32⟩
  | 34 => ⟨S_, .i32⟩
  | 35 => ⟨S4x8183, .i32⟩
  | 36 => ⟨S4x8183, .i32⟩
  | 37 => ⟨S_, .i32⟩
  | 38 => ⟨S4x8183, .i32⟩
  | 39 => ⟨S4x8183, .i32⟩
  | 40 => ⟨S4x8183, .i32⟩
  | 41 => ⟨S4x8183, .i32⟩
  | 42 => ⟨S4x8183, .i32⟩
  | 43 => ⟨S_, .i32⟩
  | 44 => ⟨S4x8183, .i32⟩
  | 45 => ⟨S4x8183, .i32⟩
  | 46 => ⟨S_, .i32⟩
  | 47 => ⟨S4x8183, .i32⟩
  | 48 => ⟨S4x8183, .i32⟩
  | 49 => ⟨S4x8183, .i32⟩
  | 50 => ⟨S4x8183, .i32⟩
  | 51 => ⟨S4x8183, .i32⟩
  | 52 => ⟨S4x8183, .i32⟩
  | 53 => ⟨S4x8183, .i32⟩
  | 54 => ⟨S4x8183, .i32⟩
  | 55 => ⟨S_, .i32⟩
  | 56 => ⟨S4x8183, .i32⟩
  | 57 => ⟨S4x8183, .i32⟩
  | 58 => ⟨S4x8183, .i32⟩
  | 59 => ⟨S_, .i32⟩
  | 60 => ⟨S4x8183, .i32⟩
  | 61 => ⟨S4x8183, .i32⟩
  | 62 => ⟨S_, .i32⟩
  | 63 => ⟨S4x8183, .i32⟩
  | 64 => ⟨S4x8183, .i32⟩
  | 65 => ⟨S4x8183, .i32⟩
  | 66 => ⟨S4x8183, .i32⟩
  | 67 => ⟨S4x8183, .i32⟩
  | 68 => ⟨S_, .i32⟩
  | 69 => ⟨S4x8183, .i32⟩
  | 70 => ⟨S4x8183, .i32⟩
  | 71 => ⟨S_, .i32⟩
  | 72 => ⟨S4x8183, .i32⟩
  | 73 => ⟨S4x8183, .i32⟩
  | 74 => ⟨S4x8183, .i32⟩
  | 75 => ⟨S4x8183, .i32⟩
  | 76 => ⟨S4x8183, .i32⟩
  | 77 => ⟨S_, .i32⟩
  | 78 => ⟨S4x8183, .i32⟩
  | 79 => ⟨S4x8183, .i32⟩
  | 80 => ⟨S_, .i32⟩
  | 81 => ⟨S4x8183, .i32⟩
  | 82 => ⟨S4x8183, .i32⟩
  | 83 => ⟨S4x8183, .i32⟩
  | 84 => ⟨S4x8183, .i32⟩
  | 85 => ⟨S4x8183, .i32⟩
  | 86 => ⟨S_, .i32⟩
  | 87 => ⟨S4x8183, .i32⟩
  | 88 => ⟨S4x8183, .i32⟩
  | 89 => ⟨S_, .i32⟩
  | 90 => ⟨S4x8183, .i32⟩
  | 91 => ⟨S4x8183, .i32⟩
  | 92 => ⟨S4x8183, .i32⟩
  | 93 => ⟨S4x8183, .i32⟩
  | 94 => ⟨S4x8183, .i32⟩
  | 95 => ⟨S4x8183, .i32⟩
  | 96 => ⟨S4x8183, .i32⟩
  | 97 => ⟨S4x8183, .i32⟩
  | 98 => ⟨S_, .i32⟩
  | 99 => ⟨S4x8183, .i32⟩
  | 100 => ⟨S4x8183, .i32⟩
  | 101 => ⟨S4x8183, .i32⟩
  | 102 => ⟨S_, .i32⟩
  | 103 => ⟨S4x8183, .i32⟩
  | 104 => ⟨S4x8183, .i32⟩
  | 105 => ⟨S_, .i32⟩
  | 106 => ⟨S4x8183, .i32⟩
  | 107 => ⟨S4x8183, .i32⟩
  | 108 => ⟨S4x8183, .i32⟩
  | 109 => ⟨S4x8183, .i32⟩
  | 110 => ⟨S4x8183, .i32⟩
  | 111 => ⟨S_, .i32⟩
  | 112 => ⟨S4x8183, .i32⟩
  | 113 => ⟨S4x8183, .i32⟩
  | 114 => ⟨S_, .i32⟩
  | 115 => ⟨S4x8183, .i32⟩
  | 116 => ⟨S4x8183, .i32⟩
  | 117 => ⟨S4x8183, .i32⟩
  | 118 => ⟨S4x8183, .i32⟩
  | 119 => ⟨S4x8183, .i32⟩
  | 120 => ⟨S_, .i32⟩
  | 121 => ⟨S4x8183, .i32⟩
  | 122 => ⟨S4x8183, .i32⟩
  | 123 => ⟨S_, .i32⟩
  | 124 => ⟨S4x8183, .i32⟩
  | 125 => ⟨S4x8183, .i32⟩
  | 126 => ⟨S4x8183, .i32⟩
  | 127 => ⟨S4x8183, .i32⟩
  | _ => ⟨S4x8192x1024, .f32⟩

abbrev hbmTy0_5 (i : Nat) : BufTy := match i % 128 with
  | 0 => ⟨S4x8183, .i32⟩
  | 1 => ⟨S_, .i32⟩
  | 2 => ⟨S4x8183, .i32⟩
  | 3 => ⟨S4x8183, .i32⟩
  | 4 => ⟨S_, .i32⟩
  | 5 => ⟨S4x8183, .i32⟩
  | 6 => ⟨S4x8183, .i32⟩
  | 7 => ⟨S4x8183, .i32⟩
  | 8 => ⟨S4x8183, .i32⟩
  | 9 => ⟨S4x8183, .i32⟩
  | 10 => ⟨S4x8183, .i32⟩
  | 11 => ⟨S4x8183, .i32⟩
  | 12 => ⟨S4x8183, .i32⟩
  | 13 => ⟨S_, .i32⟩
  | 14 => ⟨S4x8183, .i32⟩
  | 15 => ⟨S4x8183, .i32⟩
  | 16 => ⟨S4x8183, .i32⟩
  | 17 => ⟨S_, .i32⟩
  | 18 => ⟨S4x8183, .i32⟩
  | 19 => ⟨S4x8183, .i32⟩
  | 20 => ⟨S_, .i32⟩
  | 21 => ⟨S4x8183, .i32⟩
  | 22 => ⟨S4x8183, .i32⟩
  | 23 => ⟨S4x8183, .i32⟩
  | 24 => ⟨S4x8183, .i32⟩
  | 25 => ⟨S4x8183, .i32⟩
  | 26 => ⟨S_, .i32⟩
  | 27 => ⟨S4x8183, .i32⟩
  | 28 => ⟨S4x8183, .i32⟩
  | 29 => ⟨S_, .i32⟩
  | 30 => ⟨S4x8183, .i32⟩
  | 31 => ⟨S4x8183, .i32⟩
  | 32 => ⟨S4x8183, .i32⟩
  | 33 => ⟨S4x8183, .i32⟩
  | 34 => ⟨S4x8183, .i32⟩
  | 35 => ⟨S_, .i32⟩
  | 36 => ⟨S4x8183, .i32⟩
  | 37 => ⟨S4x8183, .i32⟩
  | 38 => ⟨S_, .i32⟩
  | 39 => ⟨S4x8183, .i32⟩
  | 40 => ⟨S4x8183, .i32⟩
  | 41 => ⟨S4x8183, .i32⟩
  | 42 => ⟨S4x8183, .i32⟩
  | 43 => ⟨S4x8183, .i32⟩
  | 44 => ⟨S_, .i32⟩
  | 45 => ⟨S4x8183, .i32⟩
  | 46 => ⟨S4x8183, .i32⟩
  | 47 => ⟨S_, .i32⟩
  | 48 => ⟨S4x8183, .i32⟩
  | 49 => ⟨S4x8183, .i32⟩
  | 50 => ⟨S4x8183, .i32⟩
  | 51 => ⟨S4x8183, .i32⟩
  | 52 => ⟨S4x8183, .i32⟩
  | 53 => ⟨S4x8183, .i32⟩
  | 54 => ⟨S4x8183, .i32⟩
  | 55 => ⟨S4x8183, .i32⟩
  | 56 => ⟨S_, .i32⟩
  | 57 => ⟨S4x8183, .i32⟩
  | 58 => ⟨S4x8183, .i32⟩
  | 59 => ⟨S4x8183, .i32⟩
  | 60 => ⟨S4x8183, .i32⟩
  | 61 => ⟨S4x8183, .i32⟩
  | 62 => ⟨S4x1, .i32⟩
  | 63 => ⟨S4x1, .i32⟩
  | 64 => ⟨S2, .i32⟩
  | 65 => ⟨S4x2, .i32⟩
  | 66 => ⟨S_, .i32⟩
  | 67 => ⟨S4x2, .i32⟩
  | 68 => ⟨S4x1, .i32⟩
  | 69 => ⟨S_, .i32⟩
  | 70 => ⟨S4x1, .i32⟩
  | 71 => ⟨S4x1, .i32⟩
  | 72 => ⟨S4x2, .i32⟩
  | 73 => ⟨S4x2, .i32⟩
  | 74 => ⟨S4x2, .i32⟩
  | 75 => ⟨S4x2, .i32⟩
  | 76 => ⟨S4x2, .i32⟩
  | 77 => ⟨S_, .i32⟩
  | 78 => ⟨S4x2, .i32⟩
  | 79 => ⟨S4x2, .i32⟩
  | 80 => ⟨S_, .i32⟩
  | 81 => ⟨S4x2, .i32⟩
  | 82 => ⟨S4x2, .i32⟩
  | 83 => ⟨S4x2, .i32⟩
  | 84 => ⟨S4x2, .i32⟩
  | 85 => ⟨S4x2, .i32⟩
  | 86 => ⟨S_, .i32⟩
  | 87 => ⟨S4x2, .i32⟩
  | 88 => ⟨S4x2, .i32⟩
  | 89 => ⟨S_, .i32⟩
  | 90 => ⟨S4x2, .i32⟩
  | 91 => ⟨S4x2, .i32⟩
  | 92 => ⟨S4x2, .i32⟩
  | 93 => ⟨S4x2, .i32⟩
  | 94 => ⟨S4x2, .i32⟩
  | 95 => ⟨S_, .i32⟩
  | 96 => ⟨S4x2, .i32⟩
  | 97 => ⟨S4x2, .i32⟩
  | 98 => ⟨S_, .i32⟩
  | 99 => ⟨S4x2, .i32⟩
  | 100 => ⟨S4x2, .i32⟩
  | 101 => ⟨S4x2, .i32⟩
  | 102 => ⟨S4x2, .i32⟩
  | 103 => ⟨S4x2, .i32⟩
  | 104 => ⟨S_, .i32⟩
  | 105 => ⟨S4x2, .i32⟩
  | 106 => ⟨S4x2, .i32⟩
  | 107 => ⟨S_, .i32⟩
  | 108 => ⟨S4x2, .i32⟩
  | 109 => ⟨S4x2, .i32⟩
  | 110 => ⟨S4x2, .i32⟩
  | 111 => ⟨S4x2, .i32⟩
  | 112 => ⟨S4x2, .i32⟩
  | 113 => ⟨S4x2, .i32⟩
  | 114 => ⟨S4x2, .i32⟩
  | 115 => ⟨S4x2, .i32⟩
  | 116 => ⟨S_, .i32⟩
  | 117 => ⟨S4x2, .i32⟩
  | 118 => ⟨S4x2, .i32⟩
  | 119 => ⟨S4x2, .i32⟩
  | 120 => ⟨S_, .i32⟩
  | 121 => ⟨S4x2, .i32⟩
  | 122 => ⟨S4x2, .i32⟩
  | 123 => ⟨S_, .i32⟩
  | 124 => ⟨S4x2, .i32⟩
  | 125 => ⟨S4x2, .i32⟩
  | 126 => ⟨S4x2, .i32⟩
  | 127 => ⟨S4x2, .i32⟩
  | _ => ⟨S4x8192x1024, .f32⟩

abbrev hbmTy0_6 (i : Nat) : BufTy := match i % 128 with
  | 0 => ⟨S4x2, .i32⟩
  | 1 => ⟨S_, .i32⟩
  | 2 => ⟨S4x2, .i32⟩
  | 3 => ⟨S4x2, .i32⟩
  | 4 => ⟨S_, .i32⟩
  | 5 => ⟨S4x2, .i32⟩
  | 6 => ⟨S4x2, .i32⟩
  | 7 => ⟨S4x2, .i32⟩
  | 8 => ⟨S4x2, .i32⟩
  | 9 => ⟨S4x2, .i32⟩
  | 10 => ⟨S_, .i32⟩
  | 11 => ⟨S4x2, .i32⟩
  | 12 => ⟨S4x2, .i32⟩
  | 13 => ⟨S_, .i32⟩
  | 14 => ⟨S4x2, .i32⟩
  | 15 => ⟨S4x2, .i32⟩
  | 16 => ⟨S4x2, .i32⟩
  | 17 => ⟨S4x2, .i32⟩
  | 18 => ⟨S4x2, .i32⟩
  | 19 => ⟨S_, .i32⟩
  | 20 => ⟨S4x2, .i32⟩
  | 21 => ⟨S4x2, .i32⟩
  | 22 => ⟨S_, .i32⟩
  | 23 => ⟨S4x2, .i32⟩
  | 24 => ⟨S4x2, .i32⟩
  | 25 => ⟨S4x2, .i32⟩
  | 26 => ⟨S4x2, .i32⟩
  | 27 => ⟨S4x2, .i32⟩
  | 28 => ⟨S4x2, .i32⟩
  | 29 => ⟨S4x2, .i32⟩
  | 30 => ⟨S4x2, .i32⟩
  | 31 => ⟨S_, .i32⟩
  | 32 => ⟨S4x2, .i32⟩
  | 33 => ⟨S4x2, .i32⟩
  | 34 => ⟨S4x2, .i32⟩
  | 35 => ⟨S_, .i32⟩
  | 36 => ⟨S4x2, .i32⟩
  | 37 => ⟨S4x2, .i32⟩
  | 38 => ⟨S_, .i32⟩
  | 39 => ⟨S4x2, .i32⟩
  | 40 => ⟨S4x2, .i32⟩
  | 41 => ⟨S4x2, .i32⟩
  | 42 => ⟨S4x2, .i32⟩
  | 43 => ⟨S4x2, .i32⟩
  | 44 => ⟨S_, .i32⟩
  | 45 => ⟨S4x2, .i32⟩
  | 46 => ⟨S4x2, .i32⟩
  | 47 => ⟨S_, .i32⟩
  | 48 => ⟨S4x2, .i32⟩
  | 49 => ⟨S4x2, .i32⟩
  | 50 => ⟨S4x2, .i32⟩
  | 51 => ⟨S4x2, .i32⟩
  | 52 => ⟨S4x2, .i32⟩
  | 53 => ⟨S_, .i32⟩
  | 54 => ⟨S4x2, .i32⟩
  | 55 => ⟨S4x2, .i32⟩
  | 56 => ⟨S_, .i32⟩
  | 57 => ⟨S4x2, .i32⟩
  | 58 => ⟨S4x2, .i32⟩
  | 59 => ⟨S4x2, .i32⟩
  | 60 => ⟨S4x2, .i32⟩
  | 61 => ⟨S4x2, .i32⟩
  | 62 => ⟨S_, .i32⟩
  | 63 => ⟨S4x2, .i32⟩
  | 64 => ⟨S4x2, .i32⟩
  | 65 => ⟨S_, .i32⟩
  | 66 => ⟨S4x2, .i32⟩
  | 67 => ⟨S4x2, .i32⟩
  | 68 => ⟨S4x2, .i32⟩
  | 69 => ⟨S4x2, .i32⟩
  | 70 => ⟨S4x2, .i32⟩
  | 71 => ⟨S4x2, .i32⟩
  | 72 => ⟨S4x2, .i32⟩
  | 73 => ⟨S4x2, .i32⟩
  | 74 => ⟨S_, .i32⟩
  | 75 => ⟨S4x2, .i32⟩
  | 76 => ⟨S4x2, .i32⟩
  | 77 => ⟨S4x2, .i32⟩
  | 78 => ⟨S_, .i32⟩
  | 79 => ⟨S4x2, .i32⟩
  | 80 => ⟨S4x2, .i32⟩
  | 81 => ⟨S_, .i32⟩
  | 82 => ⟨S4x2, .i32⟩
  | 83 => ⟨S4x2, .i32⟩
  | 84 => ⟨S4x2, .i32⟩
  | 85 => ⟨S4x2, .i32⟩
  | 86 => ⟨S4x2, .i32⟩
  | 87 => ⟨S_, .i32⟩
  | 88 => ⟨S4x2, .i32⟩
  | 89 => ⟨S4x2, .i32⟩
  | 90 => ⟨S_, .i32⟩
  | 91 => ⟨S4x2, .i32⟩
  | 92 => ⟨S4x2, .i32⟩
  | 93 => ⟨S4x2, .i32⟩
  | 94 => ⟨S4x2, .i32⟩
  | 95 => ⟨S4x2, .i32⟩
  | 96 => ⟨S_, .i32⟩
  | 97 => ⟨S4x2, .i32⟩
  | 98 => ⟨S4x2, .i32⟩
  | 99 => ⟨S_, .i32⟩
  | 100 => ⟨S4x2, .i32⟩
  | 101 => ⟨S4x2, .i32⟩
  | 102 => ⟨S4x2, .i32⟩
  | 103 => ⟨S4x2, .i32⟩
  | 104 => ⟨S4x2, .i32⟩
  | 105 => ⟨S_, .i32⟩
  | 106 => ⟨S4x2, .i32⟩
  | 107 => ⟨S4x2, .i32⟩
  | 108 => ⟨S_, .i32⟩
  | 109 => ⟨S4x2, .i32⟩
  | 110 => ⟨S4x2, .i32⟩
  | 111 => ⟨S4x2, .i32⟩
  | 112 => ⟨S4x2, .i32⟩
  | 113 => ⟨S4x2, .i32⟩
  | 114 => ⟨S4x2, .i32⟩
  | 115 => ⟨S4x2, .i32⟩
  | 116 => ⟨S4x2, .i32⟩
  | 117 => ⟨S_, .i32⟩
  | 118 => ⟨S4x2, .i32⟩
  | 119 => ⟨S4x2, .i32⟩
  | 120 => ⟨S4x2, .i32⟩
  | 121 => ⟨S_, .i32⟩
  | 122 => ⟨S4x2, .i32⟩
  | 123 => ⟨S4x2, .i32⟩
  | 124 => ⟨S_, .i32⟩
  | 125 => ⟨S4x2, .i32⟩
  | 126 => ⟨S4x2, .i32⟩
  | 127 => ⟨S4x2, .i32⟩
  | _ => ⟨S4x8192x1024, .f32⟩

abbrev hbmTy0_7 (i : Nat) : BufTy := match i % 128 with
  | 0 => ⟨S4x2, .i32⟩
  | 1 => ⟨S4x2, .i32⟩
  | 2 => ⟨S_, .i32⟩
  | 3 => ⟨S4x2, .i32⟩
  | 4 => ⟨S4x2, .i32⟩
  | 5 => ⟨S_, .i32⟩
  | 6 => ⟨S4x2, .i32⟩
  | 7 => ⟨S4x2, .i32⟩
  | 8 => ⟨S4x2, .i32⟩
  | 9 => ⟨S4x2, .i32⟩
  | 10 => ⟨S4x2, .i32⟩
  | 11 => ⟨S_, .i32⟩
  | 12 => ⟨S4x2, .i32⟩
  | 13 => ⟨S4x2, .i32⟩
  | 14 => ⟨S_, .i32⟩
  | 15 => ⟨S4x2, .i32⟩
  | 16 => ⟨S4x2, .i32⟩
  | 17 => ⟨S4x2, .i32⟩
  | 18 => ⟨S4x2, .i32⟩
  | 19 => ⟨S4x2, .i32⟩
  | 20 => ⟨S_, .i32⟩
  | 21 => ⟨S4x2, .i32⟩
  | 22 => ⟨S4x2, .i32⟩
  | 23 => ⟨S_, .i32⟩
  | 24 => ⟨S4x2, .i32⟩
  | 25 => ⟨S4x2, .i32⟩
  | 26 => ⟨S4x2, .i32⟩
  | 27 => ⟨S4x2, .i32⟩
  | 28 => ⟨S4x2, .i32⟩
  | 29 => ⟨S4x2, .i32⟩
  | 30 => ⟨S4x2, .i32⟩
  | 31 => ⟨S4x2, .i32⟩
  | 32 => ⟨S_, .i32⟩
  | 33 => ⟨S4x2, .i32⟩
  | 34 => ⟨S4x2, .i32⟩
  | 35 => ⟨S4x1, .i32⟩
  | 36 => ⟨S4, .i32⟩
  | 37 => ⟨S4x1, .i32⟩
  | 38 => ⟨S4, .i32⟩
  | 39 => ⟨S4x1, .i32⟩
  | 40 => ⟨S4, .i32⟩
  | 41 => ⟨S4x1, .i32⟩
  | 42 => ⟨S4, .i32⟩
  | 43 => ⟨S4x1, .i32⟩
  | 44 => ⟨S4x1, .i32⟩
  | 45 => ⟨S8183, .i32⟩
  | 46 => ⟨S4x8183, .i32⟩
  | 47 => ⟨S_, .i32⟩
  | 48 => ⟨S4x8183, .i32⟩
  | 49 => ⟨S4x1, .i32⟩
  | 50 => ⟨S_, .i32⟩
  | 51 => ⟨S4x1, .i32⟩
  | 52 => ⟨S4x1, .i32⟩
  | 53 => ⟨S4x8183, .i32⟩
  | 54 => ⟨S4x8183, .i32⟩
  | 55 => ⟨S4x8183, .i32⟩
  | 56 => ⟨S4x8183, .i32⟩
  | 57 => ⟨S4x8183, .i32⟩
  | 58 => ⟨S_, .i32⟩
  | 59 => ⟨S4x8183, .i32⟩
  | 60 => ⟨S4x8183, .i32⟩
  | 61 => ⟨S_, .i32⟩
  | 62 => ⟨S4x8183, .i32⟩
  | 63 => ⟨S4x8183, .i32⟩
  | 64 => ⟨S4x8183, .i32⟩
  | 65 => ⟨S4x8183, .i32⟩
  | 66 => ⟨S4x8183, .i32⟩
  | 67 => ⟨S_, .i32⟩
  | 68 => ⟨S4x8183, .i32⟩
  | 69 => ⟨S4x8183, .i32⟩
  | 70 => ⟨S_, .i32⟩
  | 71 => ⟨S4x8183, .i32⟩
  | 72 => ⟨S4x8183, .i32⟩
  | 73 => ⟨S4x8183, .i32⟩
  | 74 => ⟨S4x8183, .i32⟩
  | 75 => ⟨S4x8183, .i32⟩
  | 76 => ⟨S_, .i32⟩
  | 77 => ⟨S4x8183, .i32⟩
  | 78 => ⟨S4x8183, .i32⟩
  | 79 => ⟨S_, .i32⟩
  | 80 => ⟨S4x8183, .i32⟩
  | 81 => ⟨S4x8183, .i32⟩
  | 82 => ⟨S4x8183, .i32⟩
  | 83 => ⟨S4x8183, .i32⟩
  | 84 => ⟨S4x8183, .i32⟩
  | 85 => ⟨S_, .i32⟩
  | 86 => ⟨S4x8183, .i32⟩
  | 87 => ⟨S4x8183, .i32⟩
  | 88 => ⟨S_, .i32⟩
  | 89 => ⟨S4x8183, .i32⟩
  | 90 => ⟨S4x8183, .i32⟩
  | 91 => ⟨S4x8183, .i32⟩
  | 92 => ⟨S4x8183, .i32⟩
  | 93 => ⟨S4x8183, .i32⟩
  | 94 => ⟨S4x8183, .i32⟩
  | 95 => ⟨S4x8183, .i32⟩
  | 96 => ⟨S4x8183, .i32⟩
  | 97 => ⟨S_, .i32⟩
  | 98 => ⟨S4x8183, .i32⟩
  | 99 => ⟨S4x8183, .i32⟩
  | 100 => ⟨S4x8183, .i32⟩
  | 101 => ⟨S_, .i32⟩
  | 102 => ⟨S4x8183, .i32⟩
  | 103 => ⟨S4x8183, .i32⟩
  | 104 => ⟨S_, .i32⟩
  | 105 => ⟨S4x8183, .i32⟩
  | 106 => ⟨S4x8183, .i32⟩
  | 107 => ⟨S4x8183, .i32⟩
  | 108 => ⟨S4x8183, .i32⟩
  | 109 => ⟨S4x8183, .i32⟩
  | 110 => ⟨S_, .i32⟩
  | 111 => ⟨S4x8183, .i32⟩
  | 112 => ⟨S4x8183, .i32⟩
  | 113 => ⟨S_, .i32⟩
  | 114 => ⟨S4x8183, .i32⟩
  | 115 => ⟨S4x8183, .i32⟩
  | 116 => ⟨S4x8183, .i32⟩
  | 117 => ⟨S4x8183, .i32⟩
  | 118 => ⟨S4x8183, .i32⟩
  | 119 => ⟨S_, .i32⟩
  | 120 => ⟨S4x8183, .i32⟩
  | 121 => ⟨S4x8183, .i32⟩
  | 122 => ⟨S_, .i32⟩
  | 123 => ⟨S4x8183, .i32⟩
  | 124 => ⟨S4x8183, .i32⟩
  | 125 => ⟨S4x8183, .i32⟩
  | 126 => ⟨S4x8183, .i32⟩
  | 127 => ⟨S4x8183, .i32⟩
  | _ => ⟨S4x8192x1024, .f32⟩

abbrev hbmTy0_8 (i : Nat) : BufTy := match i % 128 with
  | 0 => ⟨S_, .i32⟩
  | 1 => ⟨S4x8183, .i32⟩
  | 2 => ⟨S4x8183, .i32⟩
  | 3 => ⟨S_, .i32⟩
  | 4 => ⟨S4x8183, .i32⟩
  | 5 => ⟨S4x8183, .i32⟩
  | 6 => ⟨S4x8183, .i32⟩
  | 7 => ⟨S4x8183, .i32⟩
  | 8 => ⟨S4x8183, .i32⟩
  | 9 => ⟨S4x8183, .i32⟩
  | 10 => ⟨S4x8183, .i32⟩
  | 11 => ⟨S4x8183, .i32⟩
  | 12 => ⟨S_, .i32⟩
  | 13 => ⟨S4x8183, .i32⟩
  | 14 => ⟨S4x8183, .i32⟩
  | 15 => ⟨S4x8183, .i32⟩
  | 16 => ⟨S_, .i32⟩
  | 17 => ⟨S4x8183, .i32⟩
  | 18 => ⟨S4x8183, .i32⟩
  | 19 => ⟨S_, .i32⟩
  | 20 => ⟨S4x8183, .i32⟩
  | 21 => ⟨S4x8183, .i32⟩
  | 22 => ⟨S4x8183, .i32⟩
  | 23 => ⟨S4x8183, .i32⟩
  | 24 => ⟨S4x8183, .i32⟩
  | 25 => ⟨S_, .i32⟩
  | 26 => ⟨S4x8183, .i32⟩
  | 27 => ⟨S4x8183, .i32⟩
  | 28 => ⟨S_, .i32⟩
  | 29 => ⟨S4x8183, .i32⟩
  | 30 => ⟨S4x8183, .i32⟩
  | 31 => ⟨S4x8183, .i32⟩
  | 32 => ⟨S4x8183, .i32⟩
  | 33 => ⟨S4x8183, .i32⟩
  | 34 => ⟨S_, .i32⟩
  | 35 => ⟨S4x8183, .i32⟩
  | 36 => ⟨S4x8183, .i32⟩
  | 37 => ⟨S_, .i32⟩
  | 38 => ⟨S4x8183, .i32⟩
  | 39 => ⟨S4x8183, .i32⟩
  | 40 => ⟨S4x8183, .i32⟩
  | 41 => ⟨S4x8183, .i32⟩
  | 42 => ⟨S4x8183, .i32⟩
  | 43 => ⟨S_, .i32⟩
  | 44 => ⟨S4x8183, .i32⟩
  | 45 => ⟨S4x8183, .i32⟩
  | 46 => ⟨S_, .i32⟩
  | 47 => ⟨S4x8183, .i32⟩
  | 48 => ⟨S4x8183, .i32⟩
  | 49 => ⟨S4x8183, .i32⟩
  | 50 => ⟨S4x8183, .i32⟩
  | 51 => ⟨S4x8183, .i32⟩
  | 52 => ⟨S4x8183, .i32⟩
  | 53 => ⟨S4x8183, .i32⟩
  | 54 => ⟨S4x8183, .i32⟩
  | 55 => ⟨S_, .i32⟩
  | 56 => ⟨S4x8183, .i32⟩
  | 57 => ⟨S4x8183, .i32⟩
  | 58 => ⟨S4x8183, .i32⟩
  | 59 => ⟨S_, .i32⟩
  | 60 => ⟨S4x8183, .i32⟩
  | 61 => ⟨S4x8183, .i32⟩
  | 62 => ⟨S_, .i32⟩
  | 63 => ⟨S4x8183, .i32⟩
  | 64 => ⟨S4x8183, .i32⟩
  | 65 => ⟨S4x8183, .i32⟩
  | 66 => ⟨S4x8183, .i32⟩
  | 67 => ⟨S4x8183, .i32⟩
  | 68 => ⟨S_, .i32⟩
  | 69 => ⟨S4x8183, .i32⟩
  | 70 => ⟨S4x8183, .i32⟩
  | 71 => ⟨S_, .i32⟩
  | 72 => ⟨S4x8183, .i32⟩
  | 73 => ⟨S4x8183, .i32⟩
  | 74 => ⟨S4x8183, .i32⟩
  | 75 => ⟨S4x8183, .i32⟩
  | 76 => ⟨S4x8183, .i32⟩
  | 77 => ⟨S_, .i32⟩
  | 78 => ⟨S4x8183, .i32⟩
  | 79 => ⟨S4x8183, .i32⟩
  | 80 => ⟨S_, .i32⟩
  | 81 => ⟨S4x8183, .i32⟩
  | 82 => ⟨S4x8183, .i32⟩
  | 83 => ⟨S4x8183, .i32⟩
  | 84 => ⟨S4x8183, .i32⟩
  | 85 => ⟨S4x8183, .i32⟩
  | 86 => ⟨S_, .i32⟩
  | 87 => ⟨S4x8183, .i32⟩
  | 88 => ⟨S4x8183, .i32⟩
  | 89 => ⟨S_, .i32⟩
  | 90 => ⟨S4x8183, .i32⟩
  | 91 => ⟨S4x8183, .i32⟩
  | 92 => ⟨S4x8183, .i32⟩
  | 93 => ⟨S4x8183, .i32⟩
  | 94 => ⟨S4x8183, .i32⟩
  | 95 => ⟨S4x8183, .i32⟩
  | 96 => ⟨S4x8183, .i32⟩
  | 97 => ⟨S4x8183, .i32⟩
  | 98 => ⟨S_, .i32⟩
  | 99 => ⟨S4x8183, .i32⟩
  | 100 => ⟨S4x8183, .i32⟩
  | 101 => ⟨S4x8183, .i32⟩
  | 102 => ⟨S_, .i32⟩
  | 103 => ⟨S4x8183, .i32⟩
  | 104 => ⟨S4x8183, .i32⟩
  | 105 => ⟨S_, .i32⟩
  | 106 => ⟨S4x8183, .i32⟩
  | 107 => ⟨S4x8183, .i32⟩
  | 108 => ⟨S4x8183, .i32⟩
  | 109 => ⟨S4x8183, .i32⟩
  | 110 => ⟨S4x8183, .i32⟩
  | 111 => ⟨S_, .i32⟩
  | 112 => ⟨S4x8183, .i32⟩
  | 113 => ⟨S4x8183, .i32⟩
  | 114 => ⟨S_, .i32⟩
  | 115 => ⟨S4x8183, .i32⟩
  | 116 => ⟨S4x8183, .i32⟩
  | 117 => ⟨S4x8183, .i32⟩
  | 118 => ⟨S4x8183, .i32⟩
  | 119 => ⟨S4x8183, .i32⟩
  | 120 => ⟨S_, .i32⟩
  | 121 => ⟨S4x8183, .i32⟩
  | 122 => ⟨S4x8183, .i32⟩
  | 123 => ⟨S_, .i32⟩
  | 124 => ⟨S4x8183, .i32⟩
  | 125 => ⟨S4x8183, .i32⟩
  | 126 => ⟨S4x8183, .i32⟩
  | 127 => ⟨S4x8183, .i32⟩
  | _ => ⟨S4x8192x1024, .f32⟩

abbrev hbmTy0_9 (i : Nat) : BufTy := match i % 128 with
  | 0 => ⟨S4x8183, .i32⟩
  | 1 => ⟨S_, .i32⟩
  | 2 => ⟨S4x8183, .i32⟩
  | 3 => ⟨S4x8183, .i32⟩
  | 4 => ⟨S_, .i32⟩
  | 5 => ⟨S4x8183, .i32⟩
  | 6 => ⟨S4x8183, .i32⟩
  | 7 => ⟨S4x8183, .i32⟩
  | 8 => ⟨S4x8183, .i32⟩
  | 9 => ⟨S4x8183, .i32⟩
  | 10 => ⟨S4x8183, .i32⟩
  | 11 => ⟨S4x8183, .i32⟩
  | 12 => ⟨S4x8183, .i32⟩
  | 13 => ⟨S_, .i32⟩
  | 14 => ⟨S4x8183, .i32⟩
  | 15 => ⟨S4x8183, .i32⟩
  | 16 => ⟨S4x8183, .i32⟩
  | 17 => ⟨S4x8183, .i32⟩
  | 18 => ⟨S4x8183, .i32⟩
  | 19 => ⟨S4x54, .i32⟩
  | 20 => ⟨S4x54x1, .i32⟩
  | 21 => ⟨S10, .i32⟩
  | 22 => ⟨S1x1x10, .i32⟩
  | 23 => ⟨S4x54x10, .i32⟩
  | 24 => ⟨S4x54x10, .i32⟩
  | 25 => ⟨S4x54x10, .i32⟩
  | 26 => ⟨S4, .i32⟩
  | 27 => ⟨S4x1x1, .i32⟩
  | 28 => ⟨S_, .i32⟩
  | 29 => ⟨S4x1x1, .i32⟩
  | 30 => ⟨S4x1x1, .i32⟩
  | 31 => ⟨S4x54x10, .i32⟩
  | 32 => ⟨S4x54x10, .i32⟩
  | 33 => ⟨S2160, .i32⟩
  | 34 => ⟨S_, .i1⟩
  | 35 => ⟨S32768, .i1⟩
  | 36 => ⟨S_, .i32⟩
  | 37 => ⟨S2160, .i32⟩
  | 38 => ⟨S2160, .i1⟩
  | 39 => ⟨S_, .i32⟩
  | 40 => ⟨S2160, .i32⟩
  | 41 => ⟨S2160, .i32⟩
  | 42 => ⟨S2160, .i32⟩
  | 43 => ⟨S2160x1, .i32⟩
  | 44 => ⟨S_, .i1⟩
  | 45 => ⟨S2160, .i1⟩
  | 46 => ⟨S32768, .i1⟩
  | 47 => ⟨S4x8192, .i1⟩
  | _ => ⟨S4x8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_3 : Ref sig .tc := ⟨.hbm, 17, rfl⟩
abbrev main_v12 : Ref sig .tc := ⟨.hbm, 18, rfl⟩
abbrev main_v13 : Ref sig .tc := ⟨.hbm, 19, rfl⟩
abbrev main_c_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_5 : Ref sig .tc := ⟨.hbm, 26, rfl⟩
abbrev main_v19 : Ref sig .tc := ⟨.hbm, 27, rfl⟩
abbrev main_v20 : Ref sig .tc := ⟨.hbm, 28, rfl⟩
abbrev main_c_6 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_7 : Ref sig .tc := ⟨.hbm, 35, rfl⟩
abbrev main_v26 : Ref sig .tc := ⟨.hbm, 36, rfl⟩
abbrev main_v27 : Ref sig .tc := ⟨.hbm, 37, rfl⟩
abbrev main_c_8 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_9 : Ref sig .tc := ⟨.hbm, 44, rfl⟩
abbrev main_v33 : Ref sig .tc := ⟨.hbm, 45, rfl⟩
abbrev main_v34 : Ref sig .tc := ⟨.hbm, 46, rfl⟩
abbrev main_c_10 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_11 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_12 : Ref sig .tc := ⟨.hbm, 60, rfl⟩
abbrev main_v46 : Ref sig .tc := ⟨.hbm, 61, rfl⟩
abbrev main_v47 : Ref sig .tc := ⟨.hbm, 62, rfl⟩
abbrev main_c_13 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_14 : Ref sig .tc := ⟨.hbm, 69, rfl⟩
abbrev main_v53 : Ref sig .tc := ⟨.hbm, 70, rfl⟩
abbrev main_v54 : Ref sig .tc := ⟨.hbm, 71, rfl⟩
abbrev main_c_15 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_16 : Ref sig .tc := ⟨.hbm, 78, rfl⟩
abbrev main_v60 : Ref sig .tc := ⟨.hbm, 79, rfl⟩
abbrev main_v61 : Ref sig .tc := ⟨.hbm, 80, rfl⟩
abbrev main_c_17 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_18 : Ref sig .tc := ⟨.hbm, 87, rfl⟩
abbrev main_v67 : Ref sig .tc := ⟨.hbm, 88, rfl⟩
abbrev main_v68 : Ref sig .tc := ⟨.hbm, 89, rfl⟩
abbrev main_c_19 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c_20 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c_21 : Ref sig .tc := ⟨.hbm, 103, rfl⟩
abbrev main_v80 : Ref sig .tc := ⟨.hbm, 104, rfl⟩
abbrev main_v81 : Ref sig .tc := ⟨.hbm, 105, rfl⟩
abbrev main_c_22 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_c_23 : Ref sig .tc := ⟨.hbm, 112, rfl⟩
abbrev main_v87 : Ref sig .tc := ⟨.hbm, 113, rfl⟩
abbrev main_v88 : Ref sig .tc := ⟨.hbm, 114, rfl⟩
abbrev main_c_24 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_c_25 : Ref sig .tc := ⟨.hbm, 121, rfl⟩
abbrev main_v94 : Ref sig .tc := ⟨.hbm, 122, rfl⟩
abbrev main_v95 : Ref sig .tc := ⟨.hbm, 123, rfl⟩
abbrev main_c_26 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_c_27 : Ref sig .tc := ⟨.hbm, 130, rfl⟩
abbrev main_v101 : Ref sig .tc := ⟨.hbm, 131, rfl⟩
abbrev main_v102 : Ref sig .tc := ⟨.hbm, 132, rfl⟩
abbrev main_c_28 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_c_29 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_c_30 : Ref sig .tc := ⟨.hbm, 146, rfl⟩
abbrev main_v114 : Ref sig .tc := ⟨.hbm, 147, rfl⟩
abbrev main_v115 : Ref sig .tc := ⟨.hbm, 148, rfl⟩
abbrev main_c_31 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_c_32 : Ref sig .tc := ⟨.hbm, 155, rfl⟩
abbrev main_v121 : Ref sig .tc := ⟨.hbm, 156, rfl⟩
abbrev main_v122 : Ref sig .tc := ⟨.hbm, 157, rfl⟩
abbrev main_c_33 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_c_34 : Ref sig .tc := ⟨.hbm, 164, rfl⟩
abbrev main_v128 : Ref sig .tc := ⟨.hbm, 165, rfl⟩
abbrev main_v129 : Ref sig .tc := ⟨.hbm, 166, rfl⟩
abbrev main_c_35 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_c_36 : Ref sig .tc := ⟨.hbm, 173, rfl⟩
abbrev main_v135 : Ref sig .tc := ⟨.hbm, 174, rfl⟩
abbrev main_v136 : Ref sig .tc := ⟨.hbm, 175, rfl⟩
abbrev main_c_37 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_c_38 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_c_39 : Ref sig .tc := ⟨.hbm, 189, rfl⟩
abbrev main_v148 : Ref sig .tc := ⟨.hbm, 190, rfl⟩
abbrev main_v149 : Ref sig .tc := ⟨.hbm, 191, rfl⟩
abbrev main_c_40 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_c_41 : Ref sig .tc := ⟨.hbm, 198, rfl⟩
abbrev main_v155 : Ref sig .tc := ⟨.hbm, 199, rfl⟩
abbrev main_v156 : Ref sig .tc := ⟨.hbm, 200, rfl⟩
abbrev main_c_42 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_c_43 : Ref sig .tc := ⟨.hbm, 207, rfl⟩
abbrev main_v162 : Ref sig .tc := ⟨.hbm, 208, rfl⟩
abbrev main_v163 : Ref sig .tc := ⟨.hbm, 209, rfl⟩
abbrev main_c_44 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_c_45 : Ref sig .tc := ⟨.hbm, 216, rfl⟩
abbrev main_v169 : Ref sig .tc := ⟨.hbm, 217, rfl⟩
abbrev main_v170 : Ref sig .tc := ⟨.hbm, 218, rfl⟩
abbrev main_c_46 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_c_47 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_c_48 : Ref sig .tc := ⟨.hbm, 237, rfl⟩
abbrev main_v187 : Ref sig .tc := ⟨.hbm, 238, rfl⟩
abbrev main_v188 : Ref sig .tc := ⟨.hbm, 239, rfl⟩
abbrev main_c_49 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_c_50 : Ref sig .tc := ⟨.hbm, 248, rfl⟩
abbrev main_v196 : Ref sig .tc := ⟨.hbm, 249, rfl⟩
abbrev main_v197 : Ref sig .tc := ⟨.hbm, 250, rfl⟩
abbrev main_c_51 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_c_52 : Ref sig .tc := ⟨.hbm, 257, rfl⟩
abbrev main_v203 : Ref sig .tc := ⟨.hbm, 258, rfl⟩
abbrev main_v204 : Ref sig .tc := ⟨.hbm, 259, rfl⟩
abbrev main_c_53 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_c_54 : Ref sig .tc := ⟨.hbm, 266, rfl⟩
abbrev main_v210 : Ref sig .tc := ⟨.hbm, 267, rfl⟩
abbrev main_v211 : Ref sig .tc := ⟨.hbm, 268, rfl⟩
abbrev main_c_55 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_c_56 : Ref sig .tc := ⟨.hbm, 275, rfl⟩
abbrev main_v217 : Ref sig .tc := ⟨.hbm, 276, rfl⟩
abbrev main_v218 : Ref sig .tc := ⟨.hbm, 277, rfl⟩
abbrev main_c_57 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_c_58 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_c_59 : Ref sig .tc := ⟨.hbm, 291, rfl⟩
abbrev main_v230 : Ref sig .tc := ⟨.hbm, 292, rfl⟩
abbrev main_v231 : Ref sig .tc := ⟨.hbm, 293, rfl⟩
abbrev main_c_60 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_c_61 : Ref sig .tc := ⟨.hbm, 300, rfl⟩
abbrev main_v237 : Ref sig .tc := ⟨.hbm, 301, rfl⟩
abbrev main_v238 : Ref sig .tc := ⟨.hbm, 302, rfl⟩
abbrev main_c_62 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_c_63 : Ref sig .tc := ⟨.hbm, 309, rfl⟩
abbrev main_v244 : Ref sig .tc := ⟨.hbm, 310, rfl⟩
abbrev main_v245 : Ref sig .tc := ⟨.hbm, 311, rfl⟩
abbrev main_c_64 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_c_65 : Ref sig .tc := ⟨.hbm, 318, rfl⟩
abbrev main_v251 : Ref sig .tc := ⟨.hbm, 319, rfl⟩
abbrev main_v252 : Ref sig .tc := ⟨.hbm, 320, rfl⟩
abbrev main_c_66 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_c_67 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_c_68 : Ref sig .tc := ⟨.hbm, 334, rfl⟩
abbrev main_v264 : Ref sig .tc := ⟨.hbm, 335, rfl⟩
abbrev main_v265 : Ref sig .tc := ⟨.hbm, 336, rfl⟩
abbrev main_c_69 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_c_70 : Ref sig .tc := ⟨.hbm, 343, rfl⟩
abbrev main_v271 : Ref sig .tc := ⟨.hbm, 344, rfl⟩
abbrev main_v272 : Ref sig .tc := ⟨.hbm, 345, rfl⟩
abbrev main_c_71 : Ref sig .tc := ⟨.hbm, 346, rfl⟩
abbrev main_v273 : Ref sig .tc := ⟨.hbm, 347, rfl⟩
abbrev main_v274 : Ref sig .tc := ⟨.hbm, 348, rfl⟩
abbrev main_v275 : Ref sig .tc := ⟨.hbm, 349, rfl⟩
abbrev main_v276 : Ref sig .tc := ⟨.hbm, 350, rfl⟩
abbrev main_v277 : Ref sig .tc := ⟨.hbm, 351, rfl⟩
abbrev main_c_72 : Ref sig .tc := ⟨.hbm, 352, rfl⟩
abbrev main_v278 : Ref sig .tc := ⟨.hbm, 353, rfl⟩
abbrev main_v279 : Ref sig .tc := ⟨.hbm, 354, rfl⟩
abbrev main_c_73 : Ref sig .tc := ⟨.hbm, 355, rfl⟩
abbrev main_v280 : Ref sig .tc := ⟨.hbm, 356, rfl⟩
abbrev main_v281 : Ref sig .tc := ⟨.hbm, 357, rfl⟩
abbrev main_v282 : Ref sig .tc := ⟨.hbm, 358, rfl⟩
abbrev main_v283 : Ref sig .tc := ⟨.hbm, 359, rfl⟩
abbrev main_v284 : Ref sig .tc := ⟨.hbm, 360, rfl⟩
abbrev main_c_74 : Ref sig .tc := ⟨.hbm, 361, rfl⟩
abbrev main_v285 : Ref sig .tc := ⟨.hbm, 362, rfl⟩
abbrev main_v286 : Ref sig .tc := ⟨.hbm, 363, rfl⟩
abbrev main_c_75 : Ref sig .tc := ⟨.hbm, 364, rfl⟩
abbrev main_v287 : Ref sig .tc := ⟨.hbm, 365, rfl⟩
abbrev main_v288 : Ref sig .tc := ⟨.hbm, 366, rfl⟩
abbrev main_v289 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_v293 : Ref sig .tc := ⟨.hbm, 371, rfl⟩
abbrev main_v294 : Ref sig .tc := ⟨.hbm, 372, rfl⟩
abbrev main_c_76 : Ref sig .tc := ⟨.hbm, 373, rfl⟩
abbrev main_v295 : Ref sig .tc := ⟨.hbm, 374, rfl⟩
abbrev main_v296 : Ref sig .tc := ⟨.hbm, 375, rfl⟩
abbrev main_v297 : Ref sig .tc := ⟨.hbm, 376, rfl⟩
abbrev main_c_77 : Ref sig .tc := ⟨.hbm, 377, rfl⟩
abbrev main_v298 : Ref sig .tc := ⟨.hbm, 378, rfl⟩
abbrev main_v299 : Ref sig .tc := ⟨.hbm, 379, rfl⟩
abbrev main_c_78 : Ref sig .tc := ⟨.hbm, 380, rfl⟩
abbrev main_v300 : Ref sig .tc := ⟨.hbm, 381, rfl⟩
abbrev main_v301 : Ref sig .tc := ⟨.hbm, 382, rfl⟩
abbrev main_v302 : Ref sig .tc := ⟨.hbm, 383, rfl⟩
abbrev main_v303 : Ref sig .tc := ⟨.hbm, 384, rfl⟩
abbrev main_v304 : Ref sig .tc := ⟨.hbm, 385, rfl⟩
abbrev main_c_79 : Ref sig .tc := ⟨.hbm, 386, rfl⟩
abbrev main_v305 : Ref sig .tc := ⟨.hbm, 387, rfl⟩
abbrev main_v306 : Ref sig .tc := ⟨.hbm, 388, rfl⟩
abbrev main_c_80 : Ref sig .tc := ⟨.hbm, 389, rfl⟩
abbrev main_v307 : Ref sig .tc := ⟨.hbm, 390, rfl⟩
abbrev main_v308 : Ref sig .tc := ⟨.hbm, 391, rfl⟩
abbrev main_v309 : Ref sig .tc := ⟨.hbm, 392, rfl⟩
abbrev main_v310 : Ref sig .tc := ⟨.hbm, 393, rfl⟩
abbrev main_v311 : Ref sig .tc := ⟨.hbm, 394, rfl⟩
abbrev main_c_81 : Ref sig .tc := ⟨.hbm, 395, rfl⟩
abbrev main_v312 : Ref sig .tc := ⟨.hbm, 396, rfl⟩
abbrev main_v313 : Ref sig .tc := ⟨.hbm, 397, rfl⟩
abbrev main_c_82 : Ref sig .tc := ⟨.hbm, 398, rfl⟩
abbrev main_v314 : Ref sig .tc := ⟨.hbm, 399, rfl⟩
abbrev main_v315 : Ref sig .tc := ⟨.hbm, 400, rfl⟩
abbrev main_v316 : Ref sig .tc := ⟨.hbm, 401, rfl⟩
abbrev main_v317 : Ref sig .tc := ⟨.hbm, 402, rfl⟩
abbrev main_v318 : Ref sig .tc := ⟨.hbm, 403, rfl⟩
abbrev main_c_83 : Ref sig .tc := ⟨.hbm, 404, rfl⟩
abbrev main_v319 : Ref sig .tc := ⟨.hbm, 405, rfl⟩
abbrev main_v320 : Ref sig .tc := ⟨.hbm, 406, rfl⟩
abbrev main_c_84 : Ref sig .tc := ⟨.hbm, 407, rfl⟩
abbrev main_v321 : Ref sig .tc := ⟨.hbm, 408, rfl⟩
abbrev main_v322 : Ref sig .tc := ⟨.hbm, 409, rfl⟩
abbrev main_v323 : Ref sig .tc := ⟨.hbm, 410, rfl⟩
abbrev main_v324 : Ref sig .tc := ⟨.hbm, 411, rfl⟩
abbrev main_v325 : Ref sig .tc := ⟨.hbm, 412, rfl⟩
abbrev main_v326 : Ref sig .tc := ⟨.hbm, 413, rfl⟩
abbrev main_v327 : Ref sig .tc := ⟨.hbm, 414, rfl⟩
abbrev main_v328 : Ref sig .tc := ⟨.hbm, 415, rfl⟩
abbrev main_c_85 : Ref sig .tc := ⟨.hbm, 416, rfl⟩
abbrev main_v329 : Ref sig .tc := ⟨.hbm, 417, rfl⟩
abbrev main_v330 : Ref sig .tc := ⟨.hbm, 418, rfl⟩
abbrev main_v331 : Ref sig .tc := ⟨.hbm, 419, rfl⟩
abbrev main_c_86 : Ref sig .tc := ⟨.hbm, 420, rfl⟩
abbrev main_v332 : Ref sig .tc := ⟨.hbm, 421, rfl⟩
abbrev main_v333 : Ref sig .tc := ⟨.hbm, 422, rfl⟩
abbrev main_c_87 : Ref sig .tc := ⟨.hbm, 423, rfl⟩
abbrev main_v334 : Ref sig .tc := ⟨.hbm, 424, rfl⟩
abbrev main_v335 : Ref sig .tc := ⟨.hbm, 425, rfl⟩
abbrev main_v336 : Ref sig .tc := ⟨.hbm, 426, rfl⟩
abbrev main_v337 : Ref sig .tc := ⟨.hbm, 427, rfl⟩
abbrev main_v338 : Ref sig .tc := ⟨.hbm, 428, rfl⟩
abbrev main_c_88 : Ref sig .tc := ⟨.hbm, 429, rfl⟩
abbrev main_v339 : Ref sig .tc := ⟨.hbm, 430, rfl⟩
abbrev main_v340 : Ref sig .tc := ⟨.hbm, 431, rfl⟩
abbrev main_c_89 : Ref sig .tc := ⟨.hbm, 432, rfl⟩
abbrev main_v341 : Ref sig .tc := ⟨.hbm, 433, rfl⟩
abbrev main_v342 : Ref sig .tc := ⟨.hbm, 434, rfl⟩
abbrev main_v343 : Ref sig .tc := ⟨.hbm, 435, rfl⟩
abbrev main_v344 : Ref sig .tc := ⟨.hbm, 436, rfl⟩
abbrev main_v345 : Ref sig .tc := ⟨.hbm, 437, rfl⟩
abbrev main_c_90 : Ref sig .tc := ⟨.hbm, 438, rfl⟩
abbrev main_v346 : Ref sig .tc := ⟨.hbm, 439, rfl⟩
abbrev main_v347 : Ref sig .tc := ⟨.hbm, 440, rfl⟩
abbrev main_c_91 : Ref sig .tc := ⟨.hbm, 441, rfl⟩
abbrev main_v348 : Ref sig .tc := ⟨.hbm, 442, rfl⟩
abbrev main_v349 : Ref sig .tc := ⟨.hbm, 443, rfl⟩
abbrev main_v350 : Ref sig .tc := ⟨.hbm, 444, rfl⟩
abbrev main_v351 : Ref sig .tc := ⟨.hbm, 445, rfl⟩
abbrev main_v352 : Ref sig .tc := ⟨.hbm, 446, rfl⟩
abbrev main_c_92 : Ref sig .tc := ⟨.hbm, 447, rfl⟩
abbrev main_v353 : Ref sig .tc := ⟨.hbm, 448, rfl⟩
abbrev main_v354 : Ref sig .tc := ⟨.hbm, 449, rfl⟩
abbrev main_c_93 : Ref sig .tc := ⟨.hbm, 450, rfl⟩
abbrev main_v355 : Ref sig .tc := ⟨.hbm, 451, rfl⟩
abbrev main_v356 : Ref sig .tc := ⟨.hbm, 452, rfl⟩
abbrev main_v357 : Ref sig .tc := ⟨.hbm, 453, rfl⟩
abbrev main_v358 : Ref sig .tc := ⟨.hbm, 454, rfl⟩
abbrev main_v359 : Ref sig .tc := ⟨.hbm, 455, rfl⟩
abbrev main_v360 : Ref sig .tc := ⟨.hbm, 456, rfl⟩
abbrev main_v361 : Ref sig .tc := ⟨.hbm, 457, rfl⟩
abbrev main_v362 : Ref sig .tc := ⟨.hbm, 458, rfl⟩
abbrev main_c_94 : Ref sig .tc := ⟨.hbm, 459, rfl⟩
abbrev main_v363 : Ref sig .tc := ⟨.hbm, 460, rfl⟩
abbrev main_v364 : Ref sig .tc := ⟨.hbm, 461, rfl⟩
abbrev main_v365 : Ref sig .tc := ⟨.hbm, 462, rfl⟩
abbrev main_v366 : Ref sig .tc := ⟨.hbm, 463, rfl⟩
abbrev main_v367 : Ref sig .tc := ⟨.hbm, 464, rfl⟩
abbrev main_v368 : Ref sig .tc := ⟨.hbm, 465, rfl⟩
abbrev main_v369 : Ref sig .tc := ⟨.hbm, 466, rfl⟩
abbrev main_v370 : Ref sig .tc := ⟨.hbm, 467, rfl⟩
abbrev main_v371 : Ref sig .tc := ⟨.hbm, 468, rfl⟩
abbrev main_v372 : Ref sig .tc := ⟨.hbm, 469, rfl⟩
abbrev main_v373 : Ref sig .tc := ⟨.hbm, 470, rfl⟩
abbrev main_v374 : Ref sig .tc := ⟨.hbm, 471, rfl⟩
abbrev main_v375 : Ref sig .tc := ⟨.hbm, 472, rfl⟩
abbrev main_v376 : Ref sig .tc := ⟨.hbm, 473, rfl⟩
abbrev main_c_95 : Ref sig .tc := ⟨.hbm, 474, rfl⟩
abbrev main_v377 : Ref sig .tc := ⟨.hbm, 475, rfl⟩
abbrev main_v378 : Ref sig .tc := ⟨.hbm, 476, rfl⟩
abbrev main_c_96 : Ref sig .tc := ⟨.hbm, 477, rfl⟩
abbrev main_v379 : Ref sig .tc := ⟨.hbm, 478, rfl⟩
abbrev main_v380 : Ref sig .tc := ⟨.hbm, 479, rfl⟩
abbrev main_v381 : Ref sig .tc := ⟨.hbm, 480, rfl⟩
abbrev main_v382 : Ref sig .tc := ⟨.hbm, 481, rfl⟩
abbrev main_v383 : Ref sig .tc := ⟨.hbm, 482, rfl⟩
abbrev main_v384 : Ref sig .tc := ⟨.hbm, 483, rfl⟩
abbrev main_v385 : Ref sig .tc := ⟨.hbm, 484, rfl⟩
abbrev main_c_97 : Ref sig .tc := ⟨.hbm, 485, rfl⟩
abbrev main_v386 : Ref sig .tc := ⟨.hbm, 486, rfl⟩
abbrev main_v387 : Ref sig .tc := ⟨.hbm, 487, rfl⟩
abbrev main_c_98 : Ref sig .tc := ⟨.hbm, 488, rfl⟩
abbrev main_v388 : Ref sig .tc := ⟨.hbm, 489, rfl⟩
abbrev main_v389 : Ref sig .tc := ⟨.hbm, 490, rfl⟩
abbrev main_v390 : Ref sig .tc := ⟨.hbm, 491, rfl⟩
abbrev main_v391 : Ref sig .tc := ⟨.hbm, 492, rfl⟩
abbrev main_v392 : Ref sig .tc := ⟨.hbm, 493, rfl⟩
abbrev main_c_99 : Ref sig .tc := ⟨.hbm, 494, rfl⟩
abbrev main_v393 : Ref sig .tc := ⟨.hbm, 495, rfl⟩
abbrev main_v394 : Ref sig .tc := ⟨.hbm, 496, rfl⟩
abbrev main_c_100 : Ref sig .tc := ⟨.hbm, 497, rfl⟩
abbrev main_v395 : Ref sig .tc := ⟨.hbm, 498, rfl⟩
abbrev main_v396 : Ref sig .tc := ⟨.hbm, 499, rfl⟩
abbrev main_v397 : Ref sig .tc := ⟨.hbm, 500, rfl⟩
abbrev main_v398 : Ref sig .tc := ⟨.hbm, 501, rfl⟩
abbrev main_v399 : Ref sig .tc := ⟨.hbm, 502, rfl⟩
abbrev main_c_101 : Ref sig .tc := ⟨.hbm, 503, rfl⟩
abbrev main_v400 : Ref sig .tc := ⟨.hbm, 504, rfl⟩
abbrev main_v401 : Ref sig .tc := ⟨.hbm, 505, rfl⟩
abbrev main_c_102 : Ref sig .tc := ⟨.hbm, 506, rfl⟩
abbrev main_v402 : Ref sig .tc := ⟨.hbm, 507, rfl⟩
abbrev main_v403 : Ref sig .tc := ⟨.hbm, 508, rfl⟩
abbrev main_v404 : Ref sig .tc := ⟨.hbm, 509, rfl⟩
abbrev main_v405 : Ref sig .tc := ⟨.hbm, 510, rfl⟩
abbrev main_v406 : Ref sig .tc := ⟨.hbm, 511, rfl⟩
abbrev main_c_103 : Ref sig .tc := ⟨.hbm, 512, rfl⟩
abbrev main_v407 : Ref sig .tc := ⟨.hbm, 513, rfl⟩
abbrev main_v408 : Ref sig .tc := ⟨.hbm, 514, rfl⟩
abbrev main_c_104 : Ref sig .tc := ⟨.hbm, 515, rfl⟩
abbrev main_v409 : Ref sig .tc := ⟨.hbm, 516, rfl⟩
abbrev main_v410 : Ref sig .tc := ⟨.hbm, 517, rfl⟩
abbrev main_v411 : Ref sig .tc := ⟨.hbm, 518, rfl⟩
abbrev main_v412 : Ref sig .tc := ⟨.hbm, 519, rfl⟩
abbrev main_v413 : Ref sig .tc := ⟨.hbm, 520, rfl⟩
abbrev main_v414 : Ref sig .tc := ⟨.hbm, 521, rfl⟩
abbrev main_v415 : Ref sig .tc := ⟨.hbm, 522, rfl⟩
abbrev main_v416 : Ref sig .tc := ⟨.hbm, 523, rfl⟩
abbrev main_c_105 : Ref sig .tc := ⟨.hbm, 524, rfl⟩
abbrev main_v417 : Ref sig .tc := ⟨.hbm, 525, rfl⟩
abbrev main_v418 : Ref sig .tc := ⟨.hbm, 526, rfl⟩
abbrev main_v419 : Ref sig .tc := ⟨.hbm, 527, rfl⟩
abbrev main_c_106 : Ref sig .tc := ⟨.hbm, 528, rfl⟩
abbrev main_v420 : Ref sig .tc := ⟨.hbm, 529, rfl⟩
abbrev main_v421 : Ref sig .tc := ⟨.hbm, 530, rfl⟩
abbrev main_c_107 : Ref sig .tc := ⟨.hbm, 531, rfl⟩
abbrev main_v422 : Ref sig .tc := ⟨.hbm, 532, rfl⟩
abbrev main_v423 : Ref sig .tc := ⟨.hbm, 533, rfl⟩
abbrev main_v424 : Ref sig .tc := ⟨.hbm, 534, rfl⟩
abbrev main_v425 : Ref sig .tc := ⟨.hbm, 535, rfl⟩
abbrev main_v426 : Ref sig .tc := ⟨.hbm, 536, rfl⟩
abbrev main_c_108 : Ref sig .tc := ⟨.hbm, 537, rfl⟩
abbrev main_v427 : Ref sig .tc := ⟨.hbm, 538, rfl⟩
abbrev main_v428 : Ref sig .tc := ⟨.hbm, 539, rfl⟩
abbrev main_c_109 : Ref sig .tc := ⟨.hbm, 540, rfl⟩
abbrev main_v429 : Ref sig .tc := ⟨.hbm, 541, rfl⟩
abbrev main_v430 : Ref sig .tc := ⟨.hbm, 542, rfl⟩
abbrev main_v431 : Ref sig .tc := ⟨.hbm, 543, rfl⟩
abbrev main_v432 : Ref sig .tc := ⟨.hbm, 544, rfl⟩
abbrev main_v433 : Ref sig .tc := ⟨.hbm, 545, rfl⟩
abbrev main_c_110 : Ref sig .tc := ⟨.hbm, 546, rfl⟩
abbrev main_v434 : Ref sig .tc := ⟨.hbm, 547, rfl⟩
abbrev main_v435 : Ref sig .tc := ⟨.hbm, 548, rfl⟩
abbrev main_c_111 : Ref sig .tc := ⟨.hbm, 549, rfl⟩
abbrev main_v436 : Ref sig .tc := ⟨.hbm, 550, rfl⟩
abbrev main_v437 : Ref sig .tc := ⟨.hbm, 551, rfl⟩
abbrev main_v438 : Ref sig .tc := ⟨.hbm, 552, rfl⟩
abbrev main_v439 : Ref sig .tc := ⟨.hbm, 553, rfl⟩
abbrev main_v440 : Ref sig .tc := ⟨.hbm, 554, rfl⟩
abbrev main_c_112 : Ref sig .tc := ⟨.hbm, 555, rfl⟩
abbrev main_v441 : Ref sig .tc := ⟨.hbm, 556, rfl⟩
abbrev main_v442 : Ref sig .tc := ⟨.hbm, 557, rfl⟩
abbrev main_c_113 : Ref sig .tc := ⟨.hbm, 558, rfl⟩
abbrev main_v443 : Ref sig .tc := ⟨.hbm, 559, rfl⟩
abbrev main_v444 : Ref sig .tc := ⟨.hbm, 560, rfl⟩
abbrev main_v445 : Ref sig .tc := ⟨.hbm, 561, rfl⟩
abbrev main_v446 : Ref sig .tc := ⟨.hbm, 562, rfl⟩
abbrev main_v447 : Ref sig .tc := ⟨.hbm, 563, rfl⟩
abbrev main_v448 : Ref sig .tc := ⟨.hbm, 564, rfl⟩
abbrev main_v449 : Ref sig .tc := ⟨.hbm, 565, rfl⟩
abbrev main_v450 : Ref sig .tc := ⟨.hbm, 566, rfl⟩
abbrev main_c_114 : Ref sig .tc := ⟨.hbm, 567, rfl⟩
abbrev main_v451 : Ref sig .tc := ⟨.hbm, 568, rfl⟩
abbrev main_v452 : Ref sig .tc := ⟨.hbm, 569, rfl⟩
abbrev main_v453 : Ref sig .tc := ⟨.hbm, 570, rfl⟩
abbrev main_c_115 : Ref sig .tc := ⟨.hbm, 571, rfl⟩
abbrev main_v454 : Ref sig .tc := ⟨.hbm, 572, rfl⟩
abbrev main_v455 : Ref sig .tc := ⟨.hbm, 573, rfl⟩
abbrev main_c_116 : Ref sig .tc := ⟨.hbm, 574, rfl⟩
abbrev main_v456 : Ref sig .tc := ⟨.hbm, 575, rfl⟩
abbrev main_v457 : Ref sig .tc := ⟨.hbm, 576, rfl⟩
abbrev main_v458 : Ref sig .tc := ⟨.hbm, 577, rfl⟩
abbrev main_v459 : Ref sig .tc := ⟨.hbm, 578, rfl⟩
abbrev main_v460 : Ref sig .tc := ⟨.hbm, 579, rfl⟩
abbrev main_c_117 : Ref sig .tc := ⟨.hbm, 580, rfl⟩
abbrev main_v461 : Ref sig .tc := ⟨.hbm, 581, rfl⟩
abbrev main_v462 : Ref sig .tc := ⟨.hbm, 582, rfl⟩
abbrev main_c_118 : Ref sig .tc := ⟨.hbm, 583, rfl⟩
abbrev main_v463 : Ref sig .tc := ⟨.hbm, 584, rfl⟩
abbrev main_v464 : Ref sig .tc := ⟨.hbm, 585, rfl⟩
abbrev main_v465 : Ref sig .tc := ⟨.hbm, 586, rfl⟩
abbrev main_v466 : Ref sig .tc := ⟨.hbm, 587, rfl⟩
abbrev main_v467 : Ref sig .tc := ⟨.hbm, 588, rfl⟩
abbrev main_c_119 : Ref sig .tc := ⟨.hbm, 589, rfl⟩
abbrev main_v468 : Ref sig .tc := ⟨.hbm, 590, rfl⟩
abbrev main_v469 : Ref sig .tc := ⟨.hbm, 591, rfl⟩
abbrev main_c_120 : Ref sig .tc := ⟨.hbm, 592, rfl⟩
abbrev main_v470 : Ref sig .tc := ⟨.hbm, 593, rfl⟩
abbrev main_v471 : Ref sig .tc := ⟨.hbm, 594, rfl⟩
abbrev main_v472 : Ref sig .tc := ⟨.hbm, 595, rfl⟩
abbrev main_v473 : Ref sig .tc := ⟨.hbm, 596, rfl⟩
abbrev main_v474 : Ref sig .tc := ⟨.hbm, 597, rfl⟩
abbrev main_c_121 : Ref sig .tc := ⟨.hbm, 598, rfl⟩
abbrev main_v475 : Ref sig .tc := ⟨.hbm, 599, rfl⟩
abbrev main_v476 : Ref sig .tc := ⟨.hbm, 600, rfl⟩
abbrev main_c_122 : Ref sig .tc := ⟨.hbm, 601, rfl⟩
abbrev main_v477 : Ref sig .tc := ⟨.hbm, 602, rfl⟩
abbrev main_v478 : Ref sig .tc := ⟨.hbm, 603, rfl⟩
abbrev main_v479 : Ref sig .tc := ⟨.hbm, 604, rfl⟩
abbrev main_v480 : Ref sig .tc := ⟨.hbm, 605, rfl⟩
abbrev main_v481 : Ref sig .tc := ⟨.hbm, 606, rfl⟩
abbrev main_v482 : Ref sig .tc := ⟨.hbm, 607, rfl⟩
abbrev main_v483 : Ref sig .tc := ⟨.hbm, 608, rfl⟩
abbrev main_v484 : Ref sig .tc := ⟨.hbm, 609, rfl⟩
abbrev main_c_123 : Ref sig .tc := ⟨.hbm, 610, rfl⟩
abbrev main_v485 : Ref sig .tc := ⟨.hbm, 611, rfl⟩
abbrev main_v486 : Ref sig .tc := ⟨.hbm, 612, rfl⟩
abbrev main_v487 : Ref sig .tc := ⟨.hbm, 613, rfl⟩
abbrev main_c_124 : Ref sig .tc := ⟨.hbm, 614, rfl⟩
abbrev main_v488 : Ref sig .tc := ⟨.hbm, 615, rfl⟩
abbrev main_v489 : Ref sig .tc := ⟨.hbm, 616, rfl⟩
abbrev main_c_125 : Ref sig .tc := ⟨.hbm, 617, rfl⟩
abbrev main_v490 : Ref sig .tc := ⟨.hbm, 618, rfl⟩
abbrev main_v491 : Ref sig .tc := ⟨.hbm, 619, rfl⟩
abbrev main_v492 : Ref sig .tc := ⟨.hbm, 620, rfl⟩
abbrev main_v493 : Ref sig .tc := ⟨.hbm, 621, rfl⟩
abbrev main_v494 : Ref sig .tc := ⟨.hbm, 622, rfl⟩
abbrev main_c_126 : Ref sig .tc := ⟨.hbm, 623, rfl⟩
abbrev main_v495 : Ref sig .tc := ⟨.hbm, 624, rfl⟩
abbrev main_v496 : Ref sig .tc := ⟨.hbm, 625, rfl⟩
abbrev main_c_127 : Ref sig .tc := ⟨.hbm, 626, rfl⟩
abbrev main_v497 : Ref sig .tc := ⟨.hbm, 627, rfl⟩
abbrev main_v498 : Ref sig .tc := ⟨.hbm, 628, rfl⟩
abbrev main_v499 : Ref sig .tc := ⟨.hbm, 629, rfl⟩
abbrev main_v500 : Ref sig .tc := ⟨.hbm, 630, rfl⟩
abbrev main_v501 : Ref sig .tc := ⟨.hbm, 631, rfl⟩
abbrev main_c_128 : Ref sig .tc := ⟨.hbm, 632, rfl⟩
abbrev main_v502 : Ref sig .tc := ⟨.hbm, 633, rfl⟩
abbrev main_v503 : Ref sig .tc := ⟨.hbm, 634, rfl⟩
abbrev main_c_129 : Ref sig .tc := ⟨.hbm, 635, rfl⟩
abbrev main_v504 : Ref sig .tc := ⟨.hbm, 636, rfl⟩
abbrev main_v505 : Ref sig .tc := ⟨.hbm, 637, rfl⟩
abbrev main_v506 : Ref sig .tc := ⟨.hbm, 638, rfl⟩
abbrev main_v507 : Ref sig .tc := ⟨.hbm, 639, rfl⟩
abbrev main_v508 : Ref sig .tc := ⟨.hbm, 640, rfl⟩
abbrev main_c_130 : Ref sig .tc := ⟨.hbm, 641, rfl⟩
abbrev main_v509 : Ref sig .tc := ⟨.hbm, 642, rfl⟩
abbrev main_v510 : Ref sig .tc := ⟨.hbm, 643, rfl⟩
abbrev main_c_131 : Ref sig .tc := ⟨.hbm, 644, rfl⟩
abbrev main_v511 : Ref sig .tc := ⟨.hbm, 645, rfl⟩
abbrev main_v512 : Ref sig .tc := ⟨.hbm, 646, rfl⟩
abbrev main_v513 : Ref sig .tc := ⟨.hbm, 647, rfl⟩
abbrev main_v514 : Ref sig .tc := ⟨.hbm, 648, rfl⟩
abbrev main_v515 : Ref sig .tc := ⟨.hbm, 649, rfl⟩
abbrev main_v516 : Ref sig .tc := ⟨.hbm, 650, rfl⟩
abbrev main_v517 : Ref sig .tc := ⟨.hbm, 651, rfl⟩
abbrev main_v518 : Ref sig .tc := ⟨.hbm, 652, rfl⟩
abbrev main_c_132 : Ref sig .tc := ⟨.hbm, 653, rfl⟩
abbrev main_v519 : Ref sig .tc := ⟨.hbm, 654, rfl⟩
abbrev main_v520 : Ref sig .tc := ⟨.hbm, 655, rfl⟩
abbrev main_v521 : Ref sig .tc := ⟨.hbm, 656, rfl⟩
abbrev main_c_133 : Ref sig .tc := ⟨.hbm, 657, rfl⟩
abbrev main_v522 : Ref sig .tc := ⟨.hbm, 658, rfl⟩
abbrev main_v523 : Ref sig .tc := ⟨.hbm, 659, rfl⟩
abbrev main_c_134 : Ref sig .tc := ⟨.hbm, 660, rfl⟩
abbrev main_v524 : Ref sig .tc := ⟨.hbm, 661, rfl⟩
abbrev main_v525 : Ref sig .tc := ⟨.hbm, 662, rfl⟩
abbrev main_v526 : Ref sig .tc := ⟨.hbm, 663, rfl⟩
abbrev main_v527 : Ref sig .tc := ⟨.hbm, 664, rfl⟩
abbrev main_v528 : Ref sig .tc := ⟨.hbm, 665, rfl⟩
abbrev main_c_135 : Ref sig .tc := ⟨.hbm, 666, rfl⟩
abbrev main_v529 : Ref sig .tc := ⟨.hbm, 667, rfl⟩
abbrev main_v530 : Ref sig .tc := ⟨.hbm, 668, rfl⟩
abbrev main_c_136 : Ref sig .tc := ⟨.hbm, 669, rfl⟩
abbrev main_v531 : Ref sig .tc := ⟨.hbm, 670, rfl⟩
abbrev main_v532 : Ref sig .tc := ⟨.hbm, 671, rfl⟩
abbrev main_v533 : Ref sig .tc := ⟨.hbm, 672, rfl⟩
abbrev main_v534 : Ref sig .tc := ⟨.hbm, 673, rfl⟩
abbrev main_v535 : Ref sig .tc := ⟨.hbm, 674, rfl⟩
abbrev main_c_137 : Ref sig .tc := ⟨.hbm, 675, rfl⟩
abbrev main_v536 : Ref sig .tc := ⟨.hbm, 676, rfl⟩
abbrev main_v537 : Ref sig .tc := ⟨.hbm, 677, rfl⟩
abbrev main_c_138 : Ref sig .tc := ⟨.hbm, 678, rfl⟩
abbrev main_v538 : Ref sig .tc := ⟨.hbm, 679, rfl⟩
abbrev main_v539 : Ref sig .tc := ⟨.hbm, 680, rfl⟩
abbrev main_v540 : Ref sig .tc := ⟨.hbm, 681, rfl⟩
abbrev main_v541 : Ref sig .tc := ⟨.hbm, 682, rfl⟩
abbrev main_v542 : Ref sig .tc := ⟨.hbm, 683, rfl⟩
abbrev main_c_139 : Ref sig .tc := ⟨.hbm, 684, rfl⟩
abbrev main_v543 : Ref sig .tc := ⟨.hbm, 685, rfl⟩
abbrev main_v544 : Ref sig .tc := ⟨.hbm, 686, rfl⟩
abbrev main_c_140 : Ref sig .tc := ⟨.hbm, 687, rfl⟩
abbrev main_v545 : Ref sig .tc := ⟨.hbm, 688, rfl⟩
abbrev main_v546 : Ref sig .tc := ⟨.hbm, 689, rfl⟩
abbrev main_v547 : Ref sig .tc := ⟨.hbm, 690, rfl⟩
abbrev main_v548 : Ref sig .tc := ⟨.hbm, 691, rfl⟩
abbrev main_v549 : Ref sig .tc := ⟨.hbm, 692, rfl⟩
abbrev main_v550 : Ref sig .tc := ⟨.hbm, 693, rfl⟩
abbrev main_v551 : Ref sig .tc := ⟨.hbm, 694, rfl⟩
abbrev main_v552 : Ref sig .tc := ⟨.hbm, 695, rfl⟩
abbrev main_c_141 : Ref sig .tc := ⟨.hbm, 696, rfl⟩
abbrev main_v553 : Ref sig .tc := ⟨.hbm, 697, rfl⟩
abbrev main_v554 : Ref sig .tc := ⟨.hbm, 698, rfl⟩
abbrev main_v555 : Ref sig .tc := ⟨.hbm, 699, rfl⟩
abbrev main_v556_0 : Ref sig .tc := ⟨.hbm, 700, rfl⟩
abbrev main_v556_1 : Ref sig .tc := ⟨.hbm, 701, rfl⟩
abbrev main_v557 : Ref sig .tc := ⟨.hbm, 702, rfl⟩
abbrev main_v558 : Ref sig .tc := ⟨.hbm, 703, rfl⟩
abbrev main_v559 : Ref sig .tc := ⟨.hbm, 704, rfl⟩
abbrev main_v560 : Ref sig .tc := ⟨.hbm, 705, rfl⟩
abbrev main_c_142 : Ref sig .tc := ⟨.hbm, 706, rfl⟩
abbrev main_v561 : Ref sig .tc := ⟨.hbm, 707, rfl⟩
abbrev main_v562 : Ref sig .tc := ⟨.hbm, 708, rfl⟩
abbrev main_c_143 : Ref sig .tc := ⟨.hbm, 709, rfl⟩
abbrev main_v563 : Ref sig .tc := ⟨.hbm, 710, rfl⟩
abbrev main_v564 : Ref sig .tc := ⟨.hbm, 711, rfl⟩
abbrev main_v565 : Ref sig .tc := ⟨.hbm, 712, rfl⟩
abbrev main_v566 : Ref sig .tc := ⟨.hbm, 713, rfl⟩
abbrev main_v567 : Ref sig .tc := ⟨.hbm, 714, rfl⟩
abbrev main_v568 : Ref sig .tc := ⟨.hbm, 715, rfl⟩
abbrev main_v569 : Ref sig .tc := ⟨.hbm, 716, rfl⟩
abbrev main_c_144 : Ref sig .tc := ⟨.hbm, 717, rfl⟩
abbrev main_v570 : Ref sig .tc := ⟨.hbm, 718, rfl⟩
abbrev main_v571 : Ref sig .tc := ⟨.hbm, 719, rfl⟩
abbrev main_c_145 : Ref sig .tc := ⟨.hbm, 720, rfl⟩
abbrev main_v572 : Ref sig .tc := ⟨.hbm, 721, rfl⟩
abbrev main_v573 : Ref sig .tc := ⟨.hbm, 722, rfl⟩
abbrev main_v574 : Ref sig .tc := ⟨.hbm, 723, rfl⟩
abbrev main_v575 : Ref sig .tc := ⟨.hbm, 724, rfl⟩
abbrev main_v576 : Ref sig .tc := ⟨.hbm, 725, rfl⟩
abbrev main_c_146 : Ref sig .tc := ⟨.hbm, 726, rfl⟩
abbrev main_v577 : Ref sig .tc := ⟨.hbm, 727, rfl⟩
abbrev main_v578 : Ref sig .tc := ⟨.hbm, 728, rfl⟩
abbrev main_c_147 : Ref sig .tc := ⟨.hbm, 729, rfl⟩
abbrev main_v579 : Ref sig .tc := ⟨.hbm, 730, rfl⟩
abbrev main_v580 : Ref sig .tc := ⟨.hbm, 731, rfl⟩
abbrev main_v581 : Ref sig .tc := ⟨.hbm, 732, rfl⟩
abbrev main_v582 : Ref sig .tc := ⟨.hbm, 733, rfl⟩
abbrev main_v583 : Ref sig .tc := ⟨.hbm, 734, rfl⟩
abbrev main_c_148 : Ref sig .tc := ⟨.hbm, 735, rfl⟩
abbrev main_v584 : Ref sig .tc := ⟨.hbm, 736, rfl⟩
abbrev main_v585 : Ref sig .tc := ⟨.hbm, 737, rfl⟩
abbrev main_c_149 : Ref sig .tc := ⟨.hbm, 738, rfl⟩
abbrev main_v586 : Ref sig .tc := ⟨.hbm, 739, rfl⟩
abbrev main_v587 : Ref sig .tc := ⟨.hbm, 740, rfl⟩
abbrev main_v588 : Ref sig .tc := ⟨.hbm, 741, rfl⟩
abbrev main_v589 : Ref sig .tc := ⟨.hbm, 742, rfl⟩
abbrev main_v590 : Ref sig .tc := ⟨.hbm, 743, rfl⟩
abbrev main_c_150 : Ref sig .tc := ⟨.hbm, 744, rfl⟩
abbrev main_v591 : Ref sig .tc := ⟨.hbm, 745, rfl⟩
abbrev main_v592 : Ref sig .tc := ⟨.hbm, 746, rfl⟩
abbrev main_c_151 : Ref sig .tc := ⟨.hbm, 747, rfl⟩
abbrev main_v593 : Ref sig .tc := ⟨.hbm, 748, rfl⟩
abbrev main_v594 : Ref sig .tc := ⟨.hbm, 749, rfl⟩
abbrev main_v595 : Ref sig .tc := ⟨.hbm, 750, rfl⟩
abbrev main_v596 : Ref sig .tc := ⟨.hbm, 751, rfl⟩
abbrev main_v597 : Ref sig .tc := ⟨.hbm, 752, rfl⟩
abbrev main_v598 : Ref sig .tc := ⟨.hbm, 753, rfl⟩
abbrev main_v599 : Ref sig .tc := ⟨.hbm, 754, rfl⟩
abbrev main_v600 : Ref sig .tc := ⟨.hbm, 755, rfl⟩
abbrev main_c_152 : Ref sig .tc := ⟨.hbm, 756, rfl⟩
abbrev main_v601 : Ref sig .tc := ⟨.hbm, 757, rfl⟩
abbrev main_v602 : Ref sig .tc := ⟨.hbm, 758, rfl⟩
abbrev main_v603 : Ref sig .tc := ⟨.hbm, 759, rfl⟩
abbrev main_c_153 : Ref sig .tc := ⟨.hbm, 760, rfl⟩
abbrev main_v604 : Ref sig .tc := ⟨.hbm, 761, rfl⟩
abbrev main_v605 : Ref sig .tc := ⟨.hbm, 762, rfl⟩
abbrev main_c_154 : Ref sig .tc := ⟨.hbm, 763, rfl⟩
abbrev main_v606 : Ref sig .tc := ⟨.hbm, 764, rfl⟩
abbrev main_v607 : Ref sig .tc := ⟨.hbm, 765, rfl⟩
abbrev main_v608 : Ref sig .tc := ⟨.hbm, 766, rfl⟩
abbrev main_v609 : Ref sig .tc := ⟨.hbm, 767, rfl⟩
abbrev main_v610 : Ref sig .tc := ⟨.hbm, 768, rfl⟩
abbrev main_c_155 : Ref sig .tc := ⟨.hbm, 769, rfl⟩
abbrev main_v611 : Ref sig .tc := ⟨.hbm, 770, rfl⟩
abbrev main_v612 : Ref sig .tc := ⟨.hbm, 771, rfl⟩
abbrev main_c_156 : Ref sig .tc := ⟨.hbm, 772, rfl⟩
abbrev main_v613 : Ref sig .tc := ⟨.hbm, 773, rfl⟩
abbrev main_v614 : Ref sig .tc := ⟨.hbm, 774, rfl⟩
abbrev main_v615 : Ref sig .tc := ⟨.hbm, 775, rfl⟩
abbrev main_v616 : Ref sig .tc := ⟨.hbm, 776, rfl⟩
abbrev main_v617 : Ref sig .tc := ⟨.hbm, 777, rfl⟩
abbrev main_c_157 : Ref sig .tc := ⟨.hbm, 778, rfl⟩
abbrev main_v618 : Ref sig .tc := ⟨.hbm, 779, rfl⟩
abbrev main_v619 : Ref sig .tc := ⟨.hbm, 780, rfl⟩
abbrev main_c_158 : Ref sig .tc := ⟨.hbm, 781, rfl⟩
abbrev main_v620 : Ref sig .tc := ⟨.hbm, 782, rfl⟩
abbrev main_v621 : Ref sig .tc := ⟨.hbm, 783, rfl⟩
abbrev main_v622 : Ref sig .tc := ⟨.hbm, 784, rfl⟩
abbrev main_v623 : Ref sig .tc := ⟨.hbm, 785, rfl⟩
abbrev main_v624 : Ref sig .tc := ⟨.hbm, 786, rfl⟩
abbrev main_c_159 : Ref sig .tc := ⟨.hbm, 787, rfl⟩
abbrev main_v625 : Ref sig .tc := ⟨.hbm, 788, rfl⟩
abbrev main_v626 : Ref sig .tc := ⟨.hbm, 789, rfl⟩
abbrev main_c_160 : Ref sig .tc := ⟨.hbm, 790, rfl⟩
abbrev main_v627 : Ref sig .tc := ⟨.hbm, 791, rfl⟩
abbrev main_v628 : Ref sig .tc := ⟨.hbm, 792, rfl⟩
abbrev main_v629 : Ref sig .tc := ⟨.hbm, 793, rfl⟩
abbrev main_v630 : Ref sig .tc := ⟨.hbm, 794, rfl⟩
abbrev main_v631 : Ref sig .tc := ⟨.hbm, 795, rfl⟩
abbrev main_v632 : Ref sig .tc := ⟨.hbm, 796, rfl⟩
abbrev main_v633 : Ref sig .tc := ⟨.hbm, 797, rfl⟩
abbrev main_v634 : Ref sig .tc := ⟨.hbm, 798, rfl⟩
abbrev main_c_161 : Ref sig .tc := ⟨.hbm, 799, rfl⟩
abbrev main_v635 : Ref sig .tc := ⟨.hbm, 800, rfl⟩
abbrev main_v636 : Ref sig .tc := ⟨.hbm, 801, rfl⟩
abbrev main_v637 : Ref sig .tc := ⟨.hbm, 802, rfl⟩
abbrev main_c_162 : Ref sig .tc := ⟨.hbm, 803, rfl⟩
abbrev main_v638 : Ref sig .tc := ⟨.hbm, 804, rfl⟩
abbrev main_v639 : Ref sig .tc := ⟨.hbm, 805, rfl⟩
abbrev main_c_163 : Ref sig .tc := ⟨.hbm, 806, rfl⟩
abbrev main_v640 : Ref sig .tc := ⟨.hbm, 807, rfl⟩
abbrev main_v641 : Ref sig .tc := ⟨.hbm, 808, rfl⟩
abbrev main_v642 : Ref sig .tc := ⟨.hbm, 809, rfl⟩
abbrev main_v643 : Ref sig .tc := ⟨.hbm, 810, rfl⟩
abbrev main_v644 : Ref sig .tc := ⟨.hbm, 811, rfl⟩
abbrev main_c_164 : Ref sig .tc := ⟨.hbm, 812, rfl⟩
abbrev main_v645 : Ref sig .tc := ⟨.hbm, 813, rfl⟩
abbrev main_v646 : Ref sig .tc := ⟨.hbm, 814, rfl⟩
abbrev main_c_165 : Ref sig .tc := ⟨.hbm, 815, rfl⟩
abbrev main_v647 : Ref sig .tc := ⟨.hbm, 816, rfl⟩
abbrev main_v648 : Ref sig .tc := ⟨.hbm, 817, rfl⟩
abbrev main_v649 : Ref sig .tc := ⟨.hbm, 818, rfl⟩
abbrev main_v650 : Ref sig .tc := ⟨.hbm, 819, rfl⟩
abbrev main_v651 : Ref sig .tc := ⟨.hbm, 820, rfl⟩
abbrev main_c_166 : Ref sig .tc := ⟨.hbm, 821, rfl⟩
abbrev main_v652 : Ref sig .tc := ⟨.hbm, 822, rfl⟩
abbrev main_v653 : Ref sig .tc := ⟨.hbm, 823, rfl⟩
abbrev main_c_167 : Ref sig .tc := ⟨.hbm, 824, rfl⟩
abbrev main_v654 : Ref sig .tc := ⟨.hbm, 825, rfl⟩
abbrev main_v655 : Ref sig .tc := ⟨.hbm, 826, rfl⟩
abbrev main_v656 : Ref sig .tc := ⟨.hbm, 827, rfl⟩
abbrev main_v657 : Ref sig .tc := ⟨.hbm, 828, rfl⟩
abbrev main_v658 : Ref sig .tc := ⟨.hbm, 829, rfl⟩
abbrev main_c_168 : Ref sig .tc := ⟨.hbm, 830, rfl⟩
abbrev main_v659 : Ref sig .tc := ⟨.hbm, 831, rfl⟩
abbrev main_v660 : Ref sig .tc := ⟨.hbm, 832, rfl⟩
abbrev main_c_169 : Ref sig .tc := ⟨.hbm, 833, rfl⟩
abbrev main_v661 : Ref sig .tc := ⟨.hbm, 834, rfl⟩
abbrev main_v662 : Ref sig .tc := ⟨.hbm, 835, rfl⟩
abbrev main_v663 : Ref sig .tc := ⟨.hbm, 836, rfl⟩
abbrev main_v664 : Ref sig .tc := ⟨.hbm, 837, rfl⟩
abbrev main_v665 : Ref sig .tc := ⟨.hbm, 838, rfl⟩
abbrev main_v666 : Ref sig .tc := ⟨.hbm, 839, rfl⟩
abbrev main_v667 : Ref sig .tc := ⟨.hbm, 840, rfl⟩
abbrev main_v668 : Ref sig .tc := ⟨.hbm, 841, rfl⟩
abbrev main_c_170 : Ref sig .tc := ⟨.hbm, 842, rfl⟩
abbrev main_v669 : Ref sig .tc := ⟨.hbm, 843, rfl⟩
abbrev main_v670 : Ref sig .tc := ⟨.hbm, 844, rfl⟩
abbrev main_v671 : Ref sig .tc := ⟨.hbm, 845, rfl⟩
abbrev main_c_171 : Ref sig .tc := ⟨.hbm, 846, rfl⟩
abbrev main_v672 : Ref sig .tc := ⟨.hbm, 847, rfl⟩
abbrev main_v673 : Ref sig .tc := ⟨.hbm, 848, rfl⟩
abbrev main_c_172 : Ref sig .tc := ⟨.hbm, 849, rfl⟩
abbrev main_v674 : Ref sig .tc := ⟨.hbm, 850, rfl⟩
abbrev main_v675 : Ref sig .tc := ⟨.hbm, 851, rfl⟩
abbrev main_v676 : Ref sig .tc := ⟨.hbm, 852, rfl⟩
abbrev main_v677 : Ref sig .tc := ⟨.hbm, 853, rfl⟩
abbrev main_v678 : Ref sig .tc := ⟨.hbm, 854, rfl⟩
abbrev main_c_173 : Ref sig .tc := ⟨.hbm, 855, rfl⟩
abbrev main_v679 : Ref sig .tc := ⟨.hbm, 856, rfl⟩
abbrev main_v680 : Ref sig .tc := ⟨.hbm, 857, rfl⟩
abbrev main_c_174 : Ref sig .tc := ⟨.hbm, 858, rfl⟩
abbrev main_v681 : Ref sig .tc := ⟨.hbm, 859, rfl⟩
abbrev main_v682 : Ref sig .tc := ⟨.hbm, 860, rfl⟩
abbrev main_v683 : Ref sig .tc := ⟨.hbm, 861, rfl⟩
abbrev main_v684 : Ref sig .tc := ⟨.hbm, 862, rfl⟩
abbrev main_v685 : Ref sig .tc := ⟨.hbm, 863, rfl⟩
abbrev main_c_175 : Ref sig .tc := ⟨.hbm, 864, rfl⟩
abbrev main_v686 : Ref sig .tc := ⟨.hbm, 865, rfl⟩
abbrev main_v687 : Ref sig .tc := ⟨.hbm, 866, rfl⟩
abbrev main_c_176 : Ref sig .tc := ⟨.hbm, 867, rfl⟩
abbrev main_v688 : Ref sig .tc := ⟨.hbm, 868, rfl⟩
abbrev main_v689 : Ref sig .tc := ⟨.hbm, 869, rfl⟩
abbrev main_v690 : Ref sig .tc := ⟨.hbm, 870, rfl⟩
abbrev main_v691 : Ref sig .tc := ⟨.hbm, 871, rfl⟩
abbrev main_v692 : Ref sig .tc := ⟨.hbm, 872, rfl⟩
abbrev main_c_177 : Ref sig .tc := ⟨.hbm, 873, rfl⟩
abbrev main_v693 : Ref sig .tc := ⟨.hbm, 874, rfl⟩
abbrev main_v694 : Ref sig .tc := ⟨.hbm, 875, rfl⟩
abbrev main_c_178 : Ref sig .tc := ⟨.hbm, 876, rfl⟩
abbrev main_v695 : Ref sig .tc := ⟨.hbm, 877, rfl⟩
abbrev main_v696 : Ref sig .tc := ⟨.hbm, 878, rfl⟩
abbrev main_v697 : Ref sig .tc := ⟨.hbm, 879, rfl⟩
abbrev main_v698 : Ref sig .tc := ⟨.hbm, 880, rfl⟩
abbrev main_v699 : Ref sig .tc := ⟨.hbm, 881, rfl⟩
abbrev main_v700 : Ref sig .tc := ⟨.hbm, 882, rfl⟩
abbrev main_v701 : Ref sig .tc := ⟨.hbm, 883, rfl⟩
abbrev main_v702 : Ref sig .tc := ⟨.hbm, 884, rfl⟩
abbrev main_c_179 : Ref sig .tc := ⟨.hbm, 885, rfl⟩
abbrev main_v703 : Ref sig .tc := ⟨.hbm, 886, rfl⟩
abbrev main_v704 : Ref sig .tc := ⟨.hbm, 887, rfl⟩
abbrev main_v705 : Ref sig .tc := ⟨.hbm, 888, rfl⟩
abbrev main_c_180 : Ref sig .tc := ⟨.hbm, 889, rfl⟩
abbrev main_v706 : Ref sig .tc := ⟨.hbm, 890, rfl⟩
abbrev main_v707 : Ref sig .tc := ⟨.hbm, 891, rfl⟩
abbrev main_c_181 : Ref sig .tc := ⟨.hbm, 892, rfl⟩
abbrev main_v708 : Ref sig .tc := ⟨.hbm, 893, rfl⟩
abbrev main_v709 : Ref sig .tc := ⟨.hbm, 894, rfl⟩
abbrev main_v710 : Ref sig .tc := ⟨.hbm, 895, rfl⟩
abbrev main_v711 : Ref sig .tc := ⟨.hbm, 896, rfl⟩
abbrev main_v712 : Ref sig .tc := ⟨.hbm, 897, rfl⟩
abbrev main_c_182 : Ref sig .tc := ⟨.hbm, 898, rfl⟩
abbrev main_v713 : Ref sig .tc := ⟨.hbm, 899, rfl⟩
abbrev main_v714 : Ref sig .tc := ⟨.hbm, 900, rfl⟩
abbrev main_c_183 : Ref sig .tc := ⟨.hbm, 901, rfl⟩
abbrev main_v715 : Ref sig .tc := ⟨.hbm, 902, rfl⟩
abbrev main_v716 : Ref sig .tc := ⟨.hbm, 903, rfl⟩
abbrev main_v717 : Ref sig .tc := ⟨.hbm, 904, rfl⟩
abbrev main_v718 : Ref sig .tc := ⟨.hbm, 905, rfl⟩
abbrev main_v719 : Ref sig .tc := ⟨.hbm, 906, rfl⟩
abbrev main_c_184 : Ref sig .tc := ⟨.hbm, 907, rfl⟩
abbrev main_v720 : Ref sig .tc := ⟨.hbm, 908, rfl⟩
abbrev main_v721 : Ref sig .tc := ⟨.hbm, 909, rfl⟩
abbrev main_c_185 : Ref sig .tc := ⟨.hbm, 910, rfl⟩
abbrev main_v722 : Ref sig .tc := ⟨.hbm, 911, rfl⟩
abbrev main_v723 : Ref sig .tc := ⟨.hbm, 912, rfl⟩
abbrev main_v724 : Ref sig .tc := ⟨.hbm, 913, rfl⟩
abbrev main_v725 : Ref sig .tc := ⟨.hbm, 914, rfl⟩
abbrev main_v726 : Ref sig .tc := ⟨.hbm, 915, rfl⟩
abbrev main_c_186 : Ref sig .tc := ⟨.hbm, 916, rfl⟩
abbrev main_v727 : Ref sig .tc := ⟨.hbm, 917, rfl⟩
abbrev main_v728 : Ref sig .tc := ⟨.hbm, 918, rfl⟩
abbrev main_c_187 : Ref sig .tc := ⟨.hbm, 919, rfl⟩
abbrev main_v729 : Ref sig .tc := ⟨.hbm, 920, rfl⟩
abbrev main_v730 : Ref sig .tc := ⟨.hbm, 921, rfl⟩
abbrev main_v731 : Ref sig .tc := ⟨.hbm, 922, rfl⟩
abbrev main_v732 : Ref sig .tc := ⟨.hbm, 923, rfl⟩
abbrev main_v733 : Ref sig .tc := ⟨.hbm, 924, rfl⟩
abbrev main_v734 : Ref sig .tc := ⟨.hbm, 925, rfl⟩
abbrev main_v735 : Ref sig .tc := ⟨.hbm, 926, rfl⟩
abbrev main_v736 : Ref sig .tc := ⟨.hbm, 927, rfl⟩
abbrev main_c_188 : Ref sig .tc := ⟨.hbm, 928, rfl⟩
abbrev main_v737 : Ref sig .tc := ⟨.hbm, 929, rfl⟩
abbrev main_v738 : Ref sig .tc := ⟨.hbm, 930, rfl⟩
abbrev main_v739 : Ref sig .tc := ⟨.hbm, 931, rfl⟩
abbrev main_v740 : Ref sig .tc := ⟨.hbm, 932, rfl⟩
abbrev main_v741 : Ref sig .tc := ⟨.hbm, 933, rfl⟩
abbrev main_v742 : Ref sig .tc := ⟨.hbm, 934, rfl⟩
abbrev main_v743 : Ref sig .tc := ⟨.hbm, 935, rfl⟩
abbrev main_v744 : Ref sig .tc := ⟨.hbm, 936, rfl⟩
abbrev main_v745 : Ref sig .tc := ⟨.hbm, 937, rfl⟩
abbrev main_v746 : Ref sig .tc := ⟨.hbm, 938, rfl⟩
abbrev main_v747 : Ref sig .tc := ⟨.hbm, 939, rfl⟩
abbrev main_v748 : Ref sig .tc := ⟨.hbm, 940, rfl⟩
abbrev main_v749 : Ref sig .tc := ⟨.hbm, 941, rfl⟩
abbrev main_v750 : Ref sig .tc := ⟨.hbm, 942, rfl⟩
abbrev main_c_189 : Ref sig .tc := ⟨.hbm, 943, rfl⟩
abbrev main_v751 : Ref sig .tc := ⟨.hbm, 944, rfl⟩
abbrev main_v752 : Ref sig .tc := ⟨.hbm, 945, rfl⟩
abbrev main_c_190 : Ref sig .tc := ⟨.hbm, 946, rfl⟩
abbrev main_v753 : Ref sig .tc := ⟨.hbm, 947, rfl⟩
abbrev main_v754 : Ref sig .tc := ⟨.hbm, 948, rfl⟩
abbrev main_v755 : Ref sig .tc := ⟨.hbm, 949, rfl⟩
abbrev main_v756 : Ref sig .tc := ⟨.hbm, 950, rfl⟩
abbrev main_v757 : Ref sig .tc := ⟨.hbm, 951, rfl⟩
abbrev main_v758 : Ref sig .tc := ⟨.hbm, 952, rfl⟩
abbrev main_v759 : Ref sig .tc := ⟨.hbm, 953, rfl⟩
abbrev main_c_191 : Ref sig .tc := ⟨.hbm, 954, rfl⟩
abbrev main_v760 : Ref sig .tc := ⟨.hbm, 955, rfl⟩
abbrev main_v761 : Ref sig .tc := ⟨.hbm, 956, rfl⟩
abbrev main_c_192 : Ref sig .tc := ⟨.hbm, 957, rfl⟩
abbrev main_v762 : Ref sig .tc := ⟨.hbm, 958, rfl⟩
abbrev main_v763 : Ref sig .tc := ⟨.hbm, 959, rfl⟩
abbrev main_v764 : Ref sig .tc := ⟨.hbm, 960, rfl⟩
abbrev main_v765 : Ref sig .tc := ⟨.hbm, 961, rfl⟩
abbrev main_v766 : Ref sig .tc := ⟨.hbm, 962, rfl⟩
abbrev main_c_193 : Ref sig .tc := ⟨.hbm, 963, rfl⟩
abbrev main_v767 : Ref sig .tc := ⟨.hbm, 964, rfl⟩
abbrev main_v768 : Ref sig .tc := ⟨.hbm, 965, rfl⟩
abbrev main_c_194 : Ref sig .tc := ⟨.hbm, 966, rfl⟩
abbrev main_v769 : Ref sig .tc := ⟨.hbm, 967, rfl⟩
abbrev main_v770 : Ref sig .tc := ⟨.hbm, 968, rfl⟩
abbrev main_v771 : Ref sig .tc := ⟨.hbm, 969, rfl⟩
abbrev main_v772 : Ref sig .tc := ⟨.hbm, 970, rfl⟩
abbrev main_v773 : Ref sig .tc := ⟨.hbm, 971, rfl⟩
abbrev main_c_195 : Ref sig .tc := ⟨.hbm, 972, rfl⟩
abbrev main_v774 : Ref sig .tc := ⟨.hbm, 973, rfl⟩
abbrev main_v775 : Ref sig .tc := ⟨.hbm, 974, rfl⟩
abbrev main_c_196 : Ref sig .tc := ⟨.hbm, 975, rfl⟩
abbrev main_v776 : Ref sig .tc := ⟨.hbm, 976, rfl⟩
abbrev main_v777 : Ref sig .tc := ⟨.hbm, 977, rfl⟩
abbrev main_v778 : Ref sig .tc := ⟨.hbm, 978, rfl⟩
abbrev main_v779 : Ref sig .tc := ⟨.hbm, 979, rfl⟩
abbrev main_v780 : Ref sig .tc := ⟨.hbm, 980, rfl⟩
abbrev main_c_197 : Ref sig .tc := ⟨.hbm, 981, rfl⟩
abbrev main_v781 : Ref sig .tc := ⟨.hbm, 982, rfl⟩
abbrev main_v782 : Ref sig .tc := ⟨.hbm, 983, rfl⟩
abbrev main_c_198 : Ref sig .tc := ⟨.hbm, 984, rfl⟩
abbrev main_v783 : Ref sig .tc := ⟨.hbm, 985, rfl⟩
abbrev main_v784 : Ref sig .tc := ⟨.hbm, 986, rfl⟩
abbrev main_v785 : Ref sig .tc := ⟨.hbm, 987, rfl⟩
abbrev main_v786 : Ref sig .tc := ⟨.hbm, 988, rfl⟩
abbrev main_v787 : Ref sig .tc := ⟨.hbm, 989, rfl⟩
abbrev main_v788 : Ref sig .tc := ⟨.hbm, 990, rfl⟩
abbrev main_v789 : Ref sig .tc := ⟨.hbm, 991, rfl⟩
abbrev main_v790 : Ref sig .tc := ⟨.hbm, 992, rfl⟩
abbrev main_c_199 : Ref sig .tc := ⟨.hbm, 993, rfl⟩
abbrev main_v791 : Ref sig .tc := ⟨.hbm, 994, rfl⟩
abbrev main_v792 : Ref sig .tc := ⟨.hbm, 995, rfl⟩
abbrev main_v793 : Ref sig .tc := ⟨.hbm, 996, rfl⟩
abbrev main_c_200 : Ref sig .tc := ⟨.hbm, 997, rfl⟩
abbrev main_v794 : Ref sig .tc := ⟨.hbm, 998, rfl⟩
abbrev main_v795 : Ref sig .tc := ⟨.hbm, 999, rfl⟩
abbrev main_c_201 : Ref sig .tc := ⟨.hbm, 1000, rfl⟩
abbrev main_v796 : Ref sig .tc := ⟨.hbm, 1001, rfl⟩
abbrev main_v797 : Ref sig .tc := ⟨.hbm, 1002, rfl⟩
abbrev main_v798 : Ref sig .tc := ⟨.hbm, 1003, rfl⟩
abbrev main_v799 : Ref sig .tc := ⟨.hbm, 1004, rfl⟩
abbrev main_v800 : Ref sig .tc := ⟨.hbm, 1005, rfl⟩
abbrev main_c_202 : Ref sig .tc := ⟨.hbm, 1006, rfl⟩
abbrev main_v801 : Ref sig .tc := ⟨.hbm, 1007, rfl⟩
abbrev main_v802 : Ref sig .tc := ⟨.hbm, 1008, rfl⟩
abbrev main_c_203 : Ref sig .tc := ⟨.hbm, 1009, rfl⟩
abbrev main_v803 : Ref sig .tc := ⟨.hbm, 1010, rfl⟩
abbrev main_v804 : Ref sig .tc := ⟨.hbm, 1011, rfl⟩
abbrev main_v805 : Ref sig .tc := ⟨.hbm, 1012, rfl⟩
abbrev main_v806 : Ref sig .tc := ⟨.hbm, 1013, rfl⟩
abbrev main_v807 : Ref sig .tc := ⟨.hbm, 1014, rfl⟩
abbrev main_c_204 : Ref sig .tc := ⟨.hbm, 1015, rfl⟩
abbrev main_v808 : Ref sig .tc := ⟨.hbm, 1016, rfl⟩
abbrev main_v809 : Ref sig .tc := ⟨.hbm, 1017, rfl⟩
abbrev main_c_205 : Ref sig .tc := ⟨.hbm, 1018, rfl⟩
abbrev main_v810 : Ref sig .tc := ⟨.hbm, 1019, rfl⟩
abbrev main_v811 : Ref sig .tc := ⟨.hbm, 1020, rfl⟩
abbrev main_v812 : Ref sig .tc := ⟨.hbm, 1021, rfl⟩
abbrev main_v813 : Ref sig .tc := ⟨.hbm, 1022, rfl⟩
abbrev main_v814 : Ref sig .tc := ⟨.hbm, 1023, rfl⟩
abbrev main_c_206 : Ref sig .tc := ⟨.hbm, 1024, rfl⟩
abbrev main_v815 : Ref sig .tc := ⟨.hbm, 1025, rfl⟩
abbrev main_v816 : Ref sig .tc := ⟨.hbm, 1026, rfl⟩
abbrev main_c_207 : Ref sig .tc := ⟨.hbm, 1027, rfl⟩
abbrev main_v817 : Ref sig .tc := ⟨.hbm, 1028, rfl⟩
abbrev main_v818 : Ref sig .tc := ⟨.hbm, 1029, rfl⟩
abbrev main_v819 : Ref sig .tc := ⟨.hbm, 1030, rfl⟩
abbrev main_v820 : Ref sig .tc := ⟨.hbm, 1031, rfl⟩
abbrev main_v821 : Ref sig .tc := ⟨.hbm, 1032, rfl⟩
abbrev main_v822 : Ref sig .tc := ⟨.hbm, 1033, rfl⟩
abbrev main_v823 : Ref sig .tc := ⟨.hbm, 1034, rfl⟩
abbrev main_v824 : Ref sig .tc := ⟨.hbm, 1035, rfl⟩
abbrev main_c_208 : Ref sig .tc := ⟨.hbm, 1036, rfl⟩
abbrev main_v825 : Ref sig .tc := ⟨.hbm, 1037, rfl⟩
abbrev main_v826 : Ref sig .tc := ⟨.hbm, 1038, rfl⟩
abbrev main_v827 : Ref sig .tc := ⟨.hbm, 1039, rfl⟩
abbrev main_c_209 : Ref sig .tc := ⟨.hbm, 1040, rfl⟩
abbrev main_v828 : Ref sig .tc := ⟨.hbm, 1041, rfl⟩
abbrev main_v829 : Ref sig .tc := ⟨.hbm, 1042, rfl⟩
abbrev main_c_210 : Ref sig .tc := ⟨.hbm, 1043, rfl⟩
abbrev main_v830 : Ref sig .tc := ⟨.hbm, 1044, rfl⟩
abbrev main_v831 : Ref sig .tc := ⟨.hbm, 1045, rfl⟩
abbrev main_v832 : Ref sig .tc := ⟨.hbm, 1046, rfl⟩
abbrev main_v833 : Ref sig .tc := ⟨.hbm, 1047, rfl⟩
abbrev main_v834 : Ref sig .tc := ⟨.hbm, 1048, rfl⟩
abbrev main_c_211 : Ref sig .tc := ⟨.hbm, 1049, rfl⟩
abbrev main_v835 : Ref sig .tc := ⟨.hbm, 1050, rfl⟩
abbrev main_v836 : Ref sig .tc := ⟨.hbm, 1051, rfl⟩
abbrev main_c_212 : Ref sig .tc := ⟨.hbm, 1052, rfl⟩
abbrev main_v837 : Ref sig .tc := ⟨.hbm, 1053, rfl⟩
abbrev main_v838 : Ref sig .tc := ⟨.hbm, 1054, rfl⟩
abbrev main_v839 : Ref sig .tc := ⟨.hbm, 1055, rfl⟩
abbrev main_v840 : Ref sig .tc := ⟨.hbm, 1056, rfl⟩
abbrev main_v841 : Ref sig .tc := ⟨.hbm, 1057, rfl⟩
abbrev main_c_213 : Ref sig .tc := ⟨.hbm, 1058, rfl⟩
abbrev main_v842 : Ref sig .tc := ⟨.hbm, 1059, rfl⟩
abbrev main_v843 : Ref sig .tc := ⟨.hbm, 1060, rfl⟩
abbrev main_c_214 : Ref sig .tc := ⟨.hbm, 1061, rfl⟩
abbrev main_v844 : Ref sig .tc := ⟨.hbm, 1062, rfl⟩
abbrev main_v845 : Ref sig .tc := ⟨.hbm, 1063, rfl⟩
abbrev main_v846 : Ref sig .tc := ⟨.hbm, 1064, rfl⟩
abbrev main_v847 : Ref sig .tc := ⟨.hbm, 1065, rfl⟩
abbrev main_v848 : Ref sig .tc := ⟨.hbm, 1066, rfl⟩
abbrev main_c_215 : Ref sig .tc := ⟨.hbm, 1067, rfl⟩
abbrev main_v849 : Ref sig .tc := ⟨.hbm, 1068, rfl⟩
abbrev main_v850 : Ref sig .tc := ⟨.hbm, 1069, rfl⟩
abbrev main_c_216 : Ref sig .tc := ⟨.hbm, 1070, rfl⟩
abbrev main_v851 : Ref sig .tc := ⟨.hbm, 1071, rfl⟩
abbrev main_v852 : Ref sig .tc := ⟨.hbm, 1072, rfl⟩
abbrev main_v853 : Ref sig .tc := ⟨.hbm, 1073, rfl⟩
abbrev main_v854 : Ref sig .tc := ⟨.hbm, 1074, rfl⟩
abbrev main_v855 : Ref sig .tc := ⟨.hbm, 1075, rfl⟩
abbrev main_v856 : Ref sig .tc := ⟨.hbm, 1076, rfl⟩
abbrev main_v857 : Ref sig .tc := ⟨.hbm, 1077, rfl⟩
abbrev main_v858 : Ref sig .tc := ⟨.hbm, 1078, rfl⟩
abbrev main_c_217 : Ref sig .tc := ⟨.hbm, 1079, rfl⟩
abbrev main_v859 : Ref sig .tc := ⟨.hbm, 1080, rfl⟩
abbrev main_v860 : Ref sig .tc := ⟨.hbm, 1081, rfl⟩
abbrev main_v861 : Ref sig .tc := ⟨.hbm, 1082, rfl⟩
abbrev main_c_218 : Ref sig .tc := ⟨.hbm, 1083, rfl⟩
abbrev main_v862 : Ref sig .tc := ⟨.hbm, 1084, rfl⟩
abbrev main_v863 : Ref sig .tc := ⟨.hbm, 1085, rfl⟩
abbrev main_c_219 : Ref sig .tc := ⟨.hbm, 1086, rfl⟩
abbrev main_v864 : Ref sig .tc := ⟨.hbm, 1087, rfl⟩
abbrev main_v865 : Ref sig .tc := ⟨.hbm, 1088, rfl⟩
abbrev main_v866 : Ref sig .tc := ⟨.hbm, 1089, rfl⟩
abbrev main_v867 : Ref sig .tc := ⟨.hbm, 1090, rfl⟩
abbrev main_v868 : Ref sig .tc := ⟨.hbm, 1091, rfl⟩
abbrev main_c_220 : Ref sig .tc := ⟨.hbm, 1092, rfl⟩
abbrev main_v869 : Ref sig .tc := ⟨.hbm, 1093, rfl⟩
abbrev main_v870 : Ref sig .tc := ⟨.hbm, 1094, rfl⟩
abbrev main_c_221 : Ref sig .tc := ⟨.hbm, 1095, rfl⟩
abbrev main_v871 : Ref sig .tc := ⟨.hbm, 1096, rfl⟩
abbrev main_v872 : Ref sig .tc := ⟨.hbm, 1097, rfl⟩
abbrev main_v873 : Ref sig .tc := ⟨.hbm, 1098, rfl⟩
abbrev main_v874 : Ref sig .tc := ⟨.hbm, 1099, rfl⟩
abbrev main_v875 : Ref sig .tc := ⟨.hbm, 1100, rfl⟩
abbrev main_c_222 : Ref sig .tc := ⟨.hbm, 1101, rfl⟩
abbrev main_v876 : Ref sig .tc := ⟨.hbm, 1102, rfl⟩
abbrev main_v877 : Ref sig .tc := ⟨.hbm, 1103, rfl⟩
abbrev main_c_223 : Ref sig .tc := ⟨.hbm, 1104, rfl⟩
abbrev main_v878 : Ref sig .tc := ⟨.hbm, 1105, rfl⟩
abbrev main_v879 : Ref sig .tc := ⟨.hbm, 1106, rfl⟩
abbrev main_v880 : Ref sig .tc := ⟨.hbm, 1107, rfl⟩
abbrev main_v881 : Ref sig .tc := ⟨.hbm, 1108, rfl⟩
abbrev main_v882 : Ref sig .tc := ⟨.hbm, 1109, rfl⟩
abbrev main_c_224 : Ref sig .tc := ⟨.hbm, 1110, rfl⟩
abbrev main_v883 : Ref sig .tc := ⟨.hbm, 1111, rfl⟩
abbrev main_v884 : Ref sig .tc := ⟨.hbm, 1112, rfl⟩
abbrev main_c_225 : Ref sig .tc := ⟨.hbm, 1113, rfl⟩
abbrev main_v885 : Ref sig .tc := ⟨.hbm, 1114, rfl⟩
abbrev main_v886 : Ref sig .tc := ⟨.hbm, 1115, rfl⟩
abbrev main_v887 : Ref sig .tc := ⟨.hbm, 1116, rfl⟩
abbrev main_v888 : Ref sig .tc := ⟨.hbm, 1117, rfl⟩
abbrev main_v889 : Ref sig .tc := ⟨.hbm, 1118, rfl⟩
abbrev main_v890 : Ref sig .tc := ⟨.hbm, 1119, rfl⟩
abbrev main_v891 : Ref sig .tc := ⟨.hbm, 1120, rfl⟩
abbrev main_v892 : Ref sig .tc := ⟨.hbm, 1121, rfl⟩
abbrev main_c_226 : Ref sig .tc := ⟨.hbm, 1122, rfl⟩
abbrev main_v893 : Ref sig .tc := ⟨.hbm, 1123, rfl⟩
abbrev main_v894 : Ref sig .tc := ⟨.hbm, 1124, rfl⟩
abbrev main_v895 : Ref sig .tc := ⟨.hbm, 1125, rfl⟩
abbrev main_c_227 : Ref sig .tc := ⟨.hbm, 1126, rfl⟩
abbrev main_v896 : Ref sig .tc := ⟨.hbm, 1127, rfl⟩
abbrev main_v897 : Ref sig .tc := ⟨.hbm, 1128, rfl⟩
abbrev main_c_228 : Ref sig .tc := ⟨.hbm, 1129, rfl⟩
abbrev main_v898 : Ref sig .tc := ⟨.hbm, 1130, rfl⟩
abbrev main_v899 : Ref sig .tc := ⟨.hbm, 1131, rfl⟩
abbrev main_v900 : Ref sig .tc := ⟨.hbm, 1132, rfl⟩
abbrev main_v901 : Ref sig .tc := ⟨.hbm, 1133, rfl⟩
abbrev main_v902 : Ref sig .tc := ⟨.hbm, 1134, rfl⟩
abbrev main_c_229 : Ref sig .tc := ⟨.hbm, 1135, rfl⟩
abbrev main_v903 : Ref sig .tc := ⟨.hbm, 1136, rfl⟩
abbrev main_v904 : Ref sig .tc := ⟨.hbm, 1137, rfl⟩
abbrev main_c_230 : Ref sig .tc := ⟨.hbm, 1138, rfl⟩
abbrev main_v905 : Ref sig .tc := ⟨.hbm, 1139, rfl⟩
abbrev main_v906 : Ref sig .tc := ⟨.hbm, 1140, rfl⟩
abbrev main_v907 : Ref sig .tc := ⟨.hbm, 1141, rfl⟩
abbrev main_v908 : Ref sig .tc := ⟨.hbm, 1142, rfl⟩
abbrev main_v909 : Ref sig .tc := ⟨.hbm, 1143, rfl⟩
abbrev main_c_231 : Ref sig .tc := ⟨.hbm, 1144, rfl⟩
abbrev main_v910 : Ref sig .tc := ⟨.hbm, 1145, rfl⟩
abbrev main_v911 : Ref sig .tc := ⟨.hbm, 1146, rfl⟩
abbrev main_c_232 : Ref sig .tc := ⟨.hbm, 1147, rfl⟩
abbrev main_v912 : Ref sig .tc := ⟨.hbm, 1148, rfl⟩
abbrev main_v913 : Ref sig .tc := ⟨.hbm, 1149, rfl⟩
abbrev main_v914 : Ref sig .tc := ⟨.hbm, 1150, rfl⟩
abbrev main_v915 : Ref sig .tc := ⟨.hbm, 1151, rfl⟩
abbrev main_v916 : Ref sig .tc := ⟨.hbm, 1152, rfl⟩
abbrev main_c_233 : Ref sig .tc := ⟨.hbm, 1153, rfl⟩
abbrev main_v917 : Ref sig .tc := ⟨.hbm, 1154, rfl⟩
abbrev main_v918 : Ref sig .tc := ⟨.hbm, 1155, rfl⟩
abbrev main_c_234 : Ref sig .tc := ⟨.hbm, 1156, rfl⟩
abbrev main_v919 : Ref sig .tc := ⟨.hbm, 1157, rfl⟩
abbrev main_v920 : Ref sig .tc := ⟨.hbm, 1158, rfl⟩
abbrev main_v921 : Ref sig .tc := ⟨.hbm, 1159, rfl⟩
abbrev main_v922 : Ref sig .tc := ⟨.hbm, 1160, rfl⟩
abbrev main_v923 : Ref sig .tc := ⟨.hbm, 1161, rfl⟩
abbrev main_v924 : Ref sig .tc := ⟨.hbm, 1162, rfl⟩
abbrev main_v925 : Ref sig .tc := ⟨.hbm, 1163, rfl⟩
abbrev main_v926 : Ref sig .tc := ⟨.hbm, 1164, rfl⟩
abbrev main_c_235 : Ref sig .tc := ⟨.hbm, 1165, rfl⟩
abbrev main_v927 : Ref sig .tc := ⟨.hbm, 1166, rfl⟩
abbrev main_v928 : Ref sig .tc := ⟨.hbm, 1167, rfl⟩
abbrev main_v929 : Ref sig .tc := ⟨.hbm, 1168, rfl⟩
abbrev main_v930_0 : Ref sig .tc := ⟨.hbm, 1169, rfl⟩
abbrev main_v930_1 : Ref sig .tc := ⟨.hbm, 1170, rfl⟩
abbrev main_v931 : Ref sig .tc := ⟨.hbm, 1171, rfl⟩
abbrev main_v932 : Ref sig .tc := ⟨.hbm, 1172, rfl⟩
abbrev main_v933 : Ref sig .tc := ⟨.hbm, 1173, rfl⟩
abbrev main_v934 : Ref sig .tc := ⟨.hbm, 1174, rfl⟩
abbrev main_v935 : Ref sig .tc := ⟨.hbm, 1175, rfl⟩
abbrev main_v936 : Ref sig .tc := ⟨.hbm, 1176, rfl⟩
abbrev main_v937 : Ref sig .tc := ⟨.hbm, 1177, rfl⟩
abbrev main_v938 : Ref sig .tc := ⟨.hbm, 1178, rfl⟩
abbrev main_v939 : Ref sig .tc := ⟨.hbm, 1179, rfl⟩
abbrev main_c_236 : Ref sig .tc := ⟨.hbm, 1180, rfl⟩
abbrev main_v940 : Ref sig .tc := ⟨.hbm, 1181, rfl⟩
abbrev main_v941 : Ref sig .tc := ⟨.hbm, 1182, rfl⟩
abbrev main_v942 : Ref sig .tc := ⟨.hbm, 1183, rfl⟩
abbrev main_v943 : Ref sig .tc := ⟨.hbm, 1184, rfl⟩
abbrev main_v944 : Ref sig .tc := ⟨.hbm, 1185, rfl⟩
abbrev main_c_237 : Ref sig .tc := ⟨.hbm, 1186, rfl⟩
abbrev main_v945 : Ref sig .tc := ⟨.hbm, 1187, rfl⟩
abbrev main_c_238 : Ref sig .tc := ⟨.hbm, 1188, rfl⟩
abbrev main_v946 : Ref sig .tc := ⟨.hbm, 1189, rfl⟩
abbrev main_v947 : Ref sig .tc := ⟨.hbm, 1190, rfl⟩
abbrev main_c_239 : Ref sig .tc := ⟨.hbm, 1191, rfl⟩
abbrev main_v948 : Ref sig .tc := ⟨.hbm, 1192, rfl⟩
abbrev main_v949 : Ref sig .tc := ⟨.hbm, 1193, rfl⟩
abbrev main_v950 : Ref sig .tc := ⟨.hbm, 1194, rfl⟩
abbrev main_v951 : Ref sig .tc := ⟨.hbm, 1195, rfl⟩
abbrev main_c_240 : Ref sig .tc := ⟨.hbm, 1196, rfl⟩
abbrev main_v952 : Ref sig .tc := ⟨.hbm, 1197, rfl⟩
abbrev main_v953 : Ref sig .tc := ⟨.hbm, 1198, rfl⟩
abbrev main_v954 : Ref sig .tc := ⟨.hbm, 1199, rfl⟩

abbrev nD : Nat := 1
abbrev τ : Topo := Topo.v7x

variable {F : FTy → Type} [FloatOps F]
-- ==== Proof.Frames.lean ====
/- The three frames: each program runs, leaves its argument as it was and ends with every semaphore counter at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel as printed runs, leaves its argument unchanged and ends quiescent. -/
theorem frame_kernel : Cert.quiescent_Kernel := fun m ρ _ => Cert.Kernel.Gen.frame m ρ

/-- The kernel on real numbers runs, leaves its argument unchanged and ends quiescent. -/
theorem frame_kernel_ideal : Cert.quiescent_KernelIdeal := fun m ρ _ => Cert.KernelIdeal.Gen.frame m ρ

/-- The reference runs, leaves its argument unchanged and ends quiescent (it declares no semaphore). -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Sorted.lean ====
/- The kernel's unrolled sort, as arrays: one stage is one stage of the bitonic network on the entries of every row, so that the whole sorts
   each row's entries by their signed keys. -/
module

public import proofs.«01_k».proof.Proof.Gen.KernelIdeal
public import Idealize.ShloMosaic.Lib.Pointwise.Index
public import Idealize.ShloMosaic.Lib.SortNet.Keyed
public import Idealize.ShloMosaic.Lib.SortNet.Bitonic
public import Idealize.ShloMosaic.Lib.SortNet.Sorts
public import Mathlib.Tactic.IntervalCases

@[expose] public section

noncomputable section

namespace Cert.Proof

open Idealize.ShloMosaic Idealize.ShloMosaic.TcCoe Idealize.ShloMosaic.SortNet Cert.KernelIdeal Cert.KernelIdeal.Gen

/-- An array of words with one row for each batch entry. -/
abbrev Words := IVec S4x64x128 32

/-- Every entry's own position within its row. -/
def flat : Words := addi (muli (iota .tc S4x64x128 32 [1] iota_S4x64x128_d1_w32) (broadcast S4x64x128 128#32)) (iota .tc S4x64x128 32 [2] iota_S4x64x128_d2_w32)

/-- The array moved along a row by `2 ^ s` positions, forward for `up`, backward otherwise. -/
def shifted (up : Bool) (s : Nat) (x : Words) : Words :=
  if s < 7 then dynamicRotate 2 (BitVec.ofNat 32 (if up then 128 - 2 ^ s else 2 ^ s)) none x rotates_S4x64x128_d2
  else dynamicRotate 1 (BitVec.ofNat 32 (if up then 64 - 2 ^ (s - 7) else 2 ^ (s - 7))) none x rotates_S4x64x128_d1

/-- Where the bit `s` of the position is clear. -/
def clear (s : Nat) : IVec S4x64x128 1 := cmpi .eq (andi flat (broadcast S4x64x128 (BitVec.ofNat 32 (2 ^ s)))) (broadcast S4x64x128 0#32)

/-- The partner's entry at every position. -/
def fromPartner (s : Nat) (x : Words) : Words := select (clear s) (shifted true s x) (shifted false s x)

/-- The keys after the stage of level `l` at distance `2 ^ s`. -/
def stageKeys (l s : Nat) (k : Words) : Words :=
  select (xori (xori (clear s) (clear (l + 1))) (constantI S4x64x128 1 1#1)) (minsi k (fromPartner s k)) (maxsi k (fromPartner s k))

/-- Keys and carried positions after one stage: a position takes its partner's where its key has changed. -/
def stageArrays (ls : Nat × Nat) (p : Words × Words) : Words × Words :=
  (stageKeys ls.1 ls.2 p.1, select (cmpi .ne (stageKeys ls.1 ls.2 p.1) p.1) (fromPartner ls.2 p.2) p.2)

/-- The stages in order: for each level the distances from `2 ^ l` down to 1. -/
def stages : List (Nat × Nat) := (List.range 13).flatMap fun l => (List.range (l + 1)).reverse.map fun s => (l, s)

/-! ## One row at a position -/

/-- Position `i` of row `b` in the array. -/
def place (b : Fin 4) (i : Fin (2 ^ 13)) : S4x64x128.Idx :=
  ix3 b ⟨i.val / 128, by have := i.isLt; omega⟩ ⟨i.val % 128, Nat.mod_lt _ (by decide)⟩

/-- Row `b`'s entries: key and carried word. -/
def entries (b : Fin 4) (p : Words × Words) (i : Fin (2 ^ 13)) : BitVec 32 × BitVec 32 := (p.1 (place b i), p.2 (place b i))

/-- An entry's key, signed. -/
def signedKey (e : BitVec 32 × BitVec 32) : Int := e.1.toInt

/-- The kernel's number of a position is the position. -/
theorem flat_place (b : Fin 4) (i : Fin (2 ^ 13)) : flat (place b i) = BitVec.ofNat 32 i.val := by
  have h : flat (place b i) = BitVec.ofNat 32 (0 * 64 + i.val / 128) * 128#32 + BitVec.ofNat 32 (0 * 128 + i.val % 128) := rfl
  rw [h]
  apply BitVec.eq_of_toNat_eq
  have := i.isLt
  simp only [BitVec.toNat_add, BitVec.toNat_mul, BitVec.toNat_ofNat]
  omega

/-- The kernel's test of a bit of the position. -/
theorem clear_place (b : Fin 4) (i : Fin (2 ^ 13)) {s : Nat} (hs : s < 14) :
    clear s (place b i) = if i.val &&& 2 ^ s = 0 then 1#1 else 0#1 := by
  have h : clear s (place b i) = BitVec.ofBool ((flat (place b i) &&& BitVec.ofNat 32 (2 ^ s)) == 0#32) := rfl
  have hlt : 2 ^ s < 2 ^ 32 := Nat.pow_lt_pow_right (by decide) (by omega)
  have h2 : ((BitVec.ofNat 32 i.val &&& BitVec.ofNat 32 (2 ^ s)) = 0#32) ↔ i.val &&& 2 ^ s = 0 := by
    rw [← BitVec.toNat_inj, BitVec.toNat_and, BitVec.toNat_ofNat, BitVec.toNat_ofNat, Nat.mod_eq_of_lt hlt,
      Nat.mod_eq_of_lt (lt_trans i.isLt (by decide))]; rfl
  rw [h, flat_place]
  by_cases hc : i.val &&& 2 ^ s = 0
  · rw [if_pos hc, h2.2 hc]; rfl
  · rw [if_neg hc, beq_eq_false_iff_ne.2 (mt h2.1 hc)]; rfl

/-- A clear bit, in division. -/
theorem and_pow_eq_zero (i s : Nat) : i &&& 2 ^ s = 0 ↔ i / 2 ^ s % 2 = 0 := by
  rw [and_two_pow_eq_zero_iff_testBit, Nat.testBit_eq_decide_div_mod_eq, decide_eq_false_iff_not]
  omega

/-- The index a rotation along a row reads is the place of the position moved. -/
theorem shifted_place (up : Bool) (s : Nat) (hs : s < 13) (x : Words) (b : Fin 4) (i j : Fin (2 ^ 13))
    (hi : i.val &&& 2 ^ s = 0 ↔ up = true) (hj : if up then j.val = i.val + 2 ^ s else i.val = j.val + 2 ^ s ∧ j.val &&& 2 ^ s = 0) :
    shifted up s x (place b i) = x (place b j) := by
  rw [and_pow_eq_zero] at hi
  have h1 := i.isLt
  have h2 := j.isLt
  unfold shifted
  by_cases h7 : s < 7
  · rw [if_pos h7]
    refine congrArg x (funext fun a => ?_)
    match a with
    | ⟨0, _⟩ => rfl
    | ⟨1, _⟩ =>
      refine Fin.ext ?_
      change i.val / 128 = j.val / 128
      cases up <;> simp only [if_true, if_false, Bool.false_eq_true, iff_true, iff_false, and_pow_eq_zero] at hi hj <;>
        interval_cases s <;> omega
    | ⟨2, _⟩ =>
      refine Fin.ext ?_
      change (i.val % 128 + 128 - ((BitVec.ofNat 32 (if up then 128 - 2 ^ s else 2 ^ s)).toNat + 0) % 128) % 128 = j.val % 128
      cases up <;> simp only [if_true, if_false, Bool.false_eq_true, iff_true, iff_false, and_pow_eq_zero, BitVec.toNat_ofNat] at hi hj ⊢ <;>
        interval_cases s <;> omega
  · rw [if_neg h7]
    refine congrArg x (funext fun a => ?_)
    match a with
    | ⟨0, _⟩ => rfl
    | ⟨2, _⟩ =>
      refine Fin.ext ?_
      change i.val % 128 = j.val % 128
      cases up <;> simp only [if_true, if_false, Bool.false_eq_true, iff_true, iff_false, and_pow_eq_zero] at hi hj <;>
        interval_cases s <;> omega
    | ⟨1, _⟩ =>
      refine Fin.ext ?_
      change (i.val / 128 + 64 - ((BitVec.ofNat 32 (if up then 64 - 2 ^ (s - 7) else 2 ^ (s - 7))).toNat + 0) % 64) % 64 = j.val / 128
      cases up <;> simp only [if_true, if_false, Bool.false_eq_true, iff_true, iff_false, and_pow_eq_zero, BitVec.toNat_ofNat] at hi hj ⊢ <;>
        interval_cases s <;> omega

/-- At every position the partner's entry. -/
theorem fromPartner_place {s : Nat} (hs : s < 13) (x : Words) (b : Fin 4) (i : Fin (2 ^ 13)) :
    fromPartner s x (place b i) = x (place b (partner 13 s i)) := by
  have h : fromPartner s x (place b i) = if clear s (place b i) = 1#1 then shifted true s x (place b i) else shifted false s x (place b i) := rfl
  rw [h, clear_place b i (by omega)]
  by_cases hc : i.val &&& 2 ^ s = 0
  · rw [if_pos hc, if_pos rfl]
    exact shifted_place true s hs x b i _ (by simp [hc]) (by simpa using partner_val_of_clear hs i hc)
  · rw [if_neg hc, if_neg (by decide)]
    obtain ⟨h1, h2⟩ := partner_val_of_set hs i hc
    exact shifted_place false s hs x b i _ (by simp [hc]) ⟨by omega, partner_and_of_set hs i hc⟩

/-- Whether a position takes its partner's entry: towards the lower of two positions the lesser key in an ascending block. -/
def takes (b : Fin 4) (l s : Nat) (p : Words × Words) (i : Fin (2 ^ 13)) : Bool :=
  if (i.val &&& 2 ^ s = 0 ↔ i.val &&& 2 ^ (l + 1) = 0) then decide (signedKey (entries b p (partner 13 s i)) < signedKey (entries b p i))
  else decide (signedKey (entries b p i) < signedKey (entries b p (partner 13 s i)))

/-- Where both bits agree, the partner's key is taken when it is the smaller. -/
theorem takes_same {b : Fin 4} {l s : Nat} {p : Words × Words} {i : Fin (2 ^ 13)} (h : i.val &&& 2 ^ s = 0 ↔ i.val &&& 2 ^ (l + 1) = 0) :
    takes b l s p i = true ↔ signedKey (entries b p (partner 13 s i)) < signedKey (entries b p i) := by
  unfold takes; rw [if_pos h, decide_eq_true_iff]

/-- Where the bits differ, the partner's key is taken when it is the greater. -/
theorem takes_diff {b : Fin 4} {l s : Nat} {p : Words × Words} {i : Fin (2 ^ 13)} (h : ¬ (i.val &&& 2 ^ s = 0 ↔ i.val &&& 2 ^ (l + 1) = 0)) :
    takes b l s p i = true ↔ signedKey (entries b p i) < signedKey (entries b p (partner 13 s i)) := by
  unfold takes; rw [if_neg h, decide_eq_true_iff]

/-- What one stage of the kernel does at a position. -/
theorem entries_stageArrays (b : Fin 4) {l s : Nat} (hl : l < 13) (hs : s < 13) (p : Words × Words) (i : Fin (2 ^ 13)) :
    entries b (stageArrays (l, s) p) i = if takes b l s p i then entries b p (partner 13 s i) else entries b p i := by
  have hk : stageKeys l s p.1 (place b i) = if takes b l s p i then p.1 (place b (partner 13 s i)) else p.1 (place b i) := by
    have h : stageKeys l s p.1 (place b i) =
        if (clear s (place b i) ^^^ clear (l + 1) (place b i)) ^^^ 1#1 = 1#1
        then (if (p.1 (place b i)).slt (fromPartner s p.1 (place b i)) then p.1 (place b i) else fromPartner s p.1 (place b i))
        else (if (fromPartner s p.1 (place b i)).slt (p.1 (place b i)) then p.1 (place b i) else fromPartner s p.1 (place b i)) := rfl
    rw [h, clear_place b i (by omega), clear_place b i (by omega), fromPartner_place hs]
    have hx : ((if i.val &&& 2 ^ s = 0 then 1#1 else 0#1) ^^^ (if i.val &&& 2 ^ (l + 1) = 0 then 1#1 else 0#1)) ^^^ 1#1 = 1#1
        ↔ (i.val &&& 2 ^ s = 0 ↔ i.val &&& 2 ^ (l + 1) = 0) := by
      by_cases h1 : i.val &&& 2 ^ s = 0 <;> by_cases h2 : i.val &&& 2 ^ (l + 1) = 0 <;> simp [h1, h2]
    simp only [BitVec.slt, decide_eq_true_eq]
    by_cases hd : (i.val &&& 2 ^ s = 0 ↔ i.val &&& 2 ^ (l + 1) = 0)
    · rw [if_pos (hx.2 hd)]
      have ht : takes b l s p i = true ↔ (p.1 (place b (partner 13 s i))).toInt < (p.1 (place b i)).toInt := takes_same hd
      rcases lt_trichotomy (p.1 (place b i)).toInt (p.1 (place b (partner 13 s i))).toInt with h | h | h
      · rw [if_pos h, if_neg fun t => absurd (ht.1 t) (by omega)]
      · rw [BitVec.eq_of_toInt_eq h, ite_self, ite_self]
      · rw [if_neg (by omega), if_pos (ht.2 h)]
    · rw [if_neg (mt hx.1 hd)]
      have ht : takes b l s p i = true ↔ (p.1 (place b i)).toInt < (p.1 (place b (partner 13 s i))).toInt := takes_diff hd
      rcases lt_trichotomy (p.1 (place b i)).toInt (p.1 (place b (partner 13 s i))).toInt with h | h | h
      · rw [if_neg (by omega), if_pos (ht.2 h)]
      · rw [BitVec.eq_of_toInt_eq h, ite_self, ite_self]
      · rw [if_pos h, if_neg fun t => absurd (ht.1 t) (by omega)]
  have hv : (stageArrays (l, s) p).2 (place b i) = if BitVec.ofBool (stageKeys l s p.1 (place b i) != p.1 (place b i)) = 1#1
      then fromPartner s p.2 (place b i) else p.2 (place b i) := rfl
  have hne : takes b l s p i = true → p.1 (place b (partner 13 s i)) ≠ p.1 (place b i) := by
    intro ht e
    have he : signedKey (entries b p (partner 13 s i)) = signedKey (entries b p i) := congrArg BitVec.toInt e
    by_cases hd : (i.val &&& 2 ^ s = 0 ↔ i.val &&& 2 ^ (l + 1) = 0)
    · exact absurd ((takes_same hd).1 ht) (by omega)
    · exact absurd ((takes_diff hd).1 ht) (by omega)
  refine Prod.ext ?_ ?_
  · change stageKeys l s p.1 (place b i) = _
    rw [hk]; split <;> rfl
  · change (stageArrays (l, s) p).2 (place b i) = _
    rw [hv, hk, fromPartner_place hs]
    by_cases ht : takes b l s p i
    · rw [if_pos ht, if_pos ht, bne_iff_ne.2 (hne ht)]; rfl
    · rw [if_neg ht, if_neg ht, bne_self_eq_false]; rfl

/-- The network's stage of level `l` at distance `2 ^ s`. -/
def netStage (ls : Nat × Nat) : Network (2 ^ 13) := stage 13 ls.2 fun i => decide (i.val &&& 2 ^ (ls.1 + 1) = 0) == false

/-- Partners at a distance below the block's size lie in the same block. -/
theorem partner_block {l s : Nat} (hsl : s ≤ l) (hs : s < 13) (i : Fin (2 ^ 13)) :
    ((partner 13 s i).val &&& 2 ^ (l + 1) = 0) ↔ (i.val &&& 2 ^ (l + 1) = 0) := by
  rw [and_two_pow_eq_zero_iff_testBit, and_two_pow_eq_zero_iff_testBit, partner_val hs, Nat.testBit_xor, Nat.testBit_two_pow]
  have : decide (s = l + 1) = false := decide_eq_false (by omega)
  rw [this, Bool.xor_false]

/-- What the network's stage does at a position. -/
theorem applyBy_netStage (b : Fin 4) {l s : Nat} (hsl : s ≤ l) (hl : l < 13) (p : Words × Words) (i : Fin (2 ^ 13)) :
    Network.applyBy signedKey (netStage (l, s)) (entries b p) i = if takes b l s p i then entries b p (partner 13 s i) else entries b p i := by
  have hs : s < 13 := by omega
  have key : ∀ i : Fin (2 ^ 13), i.val &&& 2 ^ s = 0 →
      Network.applyBy signedKey (netStage (l, s)) (entries b p) i = (if takes b l s p i then entries b p (partner 13 s i) else entries b p i) ∧
      Network.applyBy signedKey (netStage (l, s)) (entries b p) (partner 13 s i) =
        if takes b l s p (partner 13 s i) then entries b p i else entries b p (partner 13 s i) := by
    intro i hi
    have hne : i ≠ partner 13 s i := fun h => partner_ne hs i i hi hi h.symm
    have hpi : ¬ (partner 13 s i).val &&& 2 ^ s = 0 := by
      rw [partner_and hs i hi]; exact (Nat.two_pow_pos s).ne'
    have h := Network.applyBy_of_mem_of_disjoint signedKey _ (stage_pairwise_disjoint hs _) _
      (mem_stage.mpr ⟨i, hi, hne, rfl⟩ : stageCmpx 13 s (fun i => decide (i.val &&& 2 ^ (l + 1) = 0) == false) i hne ∈ netStage (l, s)) (entries b p)
    by_cases hd : i.val &&& 2 ^ (l + 1) = 0
    · have hc : stageCmpx 13 s (fun i => decide (i.val &&& 2 ^ (l + 1) = 0) == false) i hne = ⟨i, partner 13 s i, hne⟩ := by
        unfold stageCmpx; rw [if_neg (by simp [hd])]
      have t1 : takes b l s p i = true ↔ _ := takes_same (by simp [hi, hd])
      have t2 : takes b l s p (partner 13 s i) = true ↔ _ := takes_diff (by rw [partner_block hsl hs]; simp [hpi, hd])
      rw [partner_partner hs] at t2
      rw [hc] at h
      exact ⟨h.1.trans (if_congr t1.symm rfl rfl), h.2.trans (if_congr t2.symm rfl rfl)⟩
    · have hc : stageCmpx 13 s (fun i => decide (i.val &&& 2 ^ (l + 1) = 0) == false) i hne = ⟨partner 13 s i, i, hne.symm⟩ := by
        unfold stageCmpx; rw [if_pos (by simp [hd])]
      have t1 : takes b l s p i = true ↔ _ := takes_diff (by simp [hi, hd])
      have t2 : takes b l s p (partner 13 s i) = true ↔ _ := takes_same (by rw [partner_block hsl hs]; simp [hpi, hd])
      rw [partner_partner hs] at t2
      rw [hc] at h
      exact ⟨h.2.trans (if_congr t1.symm rfl rfl), h.1.trans (if_congr t2.symm rfl rfl)⟩
  by_cases hi : i.val &&& 2 ^ s = 0
  · exact (key i hi).1
  · have := (key _ (partner_and_of_set hs i hi)).2
    rwa [partner_partner hs] at this

/-- The stages in order are the network's stages in order, on every row. -/
theorem entries_foldl (b : Fin 4) (L : List (Nat × Nat)) (hL : ∀ ls ∈ L, ls.2 ≤ ls.1 ∧ ls.1 < 13) (p : Words × Words) :
    entries b (L.foldl (fun p ls => stageArrays ls p) p) = Network.applyBy signedKey (L.flatMap netStage) (entries b p) := by
  induction L generalizing p with
  | nil => rfl
  | cons ls L ih =>
    obtain ⟨h1, h2⟩ := hL ls List.mem_cons_self
    have he : entries b (stageArrays ls p) = Network.applyBy signedKey (netStage ls) (entries b p) :=
      funext fun i => by
        obtain ⟨l, s⟩ := ls
        have hs : s < 13 := by simp only at h1 h2; omega
        rw [applyBy_netStage b h1 h2, entries_stageArrays b h2 hs]
    rw [List.foldl_cons, List.flatMap_cons, Network.applyBy_append, ih fun x hx => hL x (List.mem_cons_of_mem _ hx), he]

/-- The kernel's stages in their order are those of the sorting network. -/
theorem stages_flatMap : stages.flatMap netStage = sortNet 13 false := by
  unfold stages sortNet
  rw [List.flatMap_assoc]
  refine List.flatMap_congr fun l _ => ?_
  rw [List.flatMap_map]
  rfl

/-- After all the stages each row's entries are rearranged so that their signed keys ascend. -/
theorem entries_sorted (b : Fin 4) (p : Words × Words) : ∃ σ : Equiv.Perm (Fin (2 ^ 13)),
    entries b (stages.foldl (fun p ls => stageArrays ls p) p) = entries b p ∘ σ ∧ Monotone fun i => signedKey (entries b p (σ i)) := by
  have h := entries_foldl b stages (fun ls h => by
    simp only [stages, List.mem_flatMap, List.mem_range, List.mem_map, List.mem_reverse] at h
    obtain ⟨l, hl, s, hs, rfl⟩ := h
    exact ⟨by simp only; omega, hl⟩) p
  rw [stages_flatMap] at h
  obtain ⟨σ, hσ⟩ := Network.exists_perm_applyBy signedKey (sortNet 13 false) (entries b p)
  refine ⟨σ, h.trans hσ, ?_⟩
  have h2 := Network.key_comp_applyBy signedKey (sortNet 13 false) (entries b p)
  have h3 := sortNet_apply_monotone 13 (signedKey ∘ entries b p)
  rw [← h2, hσ] at h3
  exact h3

end Cert.Proof

end
-- ==== Proof.Cipher.lean ====
/- The keyed mixing function (threefry, two 32-bit words, twenty rounds) on words, the random words of the two rounds of the shuffle, and
   the same function on natural numbers below `2 ^ 32`, which a checker evaluates fast. -/
module

public import Mathlib.Data.Nat.Bitwise
public import Mathlib.Tactic.Ring

@[expose] public section

namespace Cert.Proof

/-- A 32-bit word. -/
abbrev Word := BitVec 32

/-- A word rotated left by `r` places. -/
def rotl (x : Word) (r : Nat) : Word := x <<< r ||| x >>> (32 - r)

/-- One round: add, rotate, exclusive or. -/
def mix (r : Nat) (p : Word × Word) : Word × Word := (p.1 + p.2, rotl p.2 r ^^^ (p.1 + p.2))

/-- Four rounds at the four given rotations. -/
def mix4 (r₀ r₁ r₂ r₃ : Nat) (p : Word × Word) : Word × Word := mix r₃ (mix r₂ (mix r₁ (mix r₀ p)))

/-- Key words added in, the second with the number of the injection. -/
def inject (a b i : Word) (p : Word × Word) : Word × Word := (p.1 + a, p.2 + b + i)

/-- The third key word. -/
def third (k : Word × Word) : Word := k.1 ^^^ k.2 ^^^ 466688986#32

/-- The mixing function: the two words `x` under the key `k`. -/
def threefry (k x : Word × Word) : Word × Word :=
  inject (third k) k.1 5#32 (mix4 13 15 26 6 (inject k.2 (third k) 4#32 (mix4 17 29 16 24
    (inject k.1 k.2 3#32 (mix4 13 15 26 6 (inject (third k) k.1 2#32 (mix4 17 29 16 24
      (inject k.2 (third k) 1#32 (mix4 13 15 26 6 (x.1 + k.1, x.2 + k.2))))))))))

/-- The `c`-th key split off the key `k`. -/
def child (k : Word × Word) (c : Word) : Word × Word := threefry k (0#32, c)

/-- The random word of the key `k` at position `p`. -/
def bitsOf (k : Word × Word) (p : Word) : Word := (child k p).1 ^^^ (child k p).2

/-- Row `b`'s key. -/
def rowKey (b : Word) : Word × Word := child (0#32, 42#32) b

/-- The random word of row `b`'s first round at position `p`. -/
def bits1 (b p : Word) : Word := bitsOf (child (rowKey b) 1#32) p

/-- The random word of row `b`'s second round at position `p`. -/
def bits2 (b p : Word) : Word := bitsOf (child (child (rowKey b) 0#32) 1#32) p

/-! ## On natural numbers -/

/-- `f` of a number, the number worked out first. -/
def force {α : Type} (x : Nat) (f : Nat → α) : α := Nat.rec (motive := fun _ => α) (f 0) (fun n _ => f (Nat.succ n)) x

/-- Working the number out first changes nothing. -/
theorem force_eq {α : Type} (x : Nat) (f : Nat → α) : force x f = f x := by cases x <;> rfl

/-- The sum of two numbers below `2 ^ 32` as a word's number. -/
def addN (x y : Nat) : Nat := Nat.mod (Nat.add x y) 4294967296

/-- Rotation left on numbers below `2 ^ 32`. -/
def rotlN (x r : Nat) : Nat := Nat.lor (Nat.mod (Nat.shiftLeft x r) 4294967296) (Nat.shiftRight x (Nat.sub 32 r))

/-- One round on numbers, handed to `f`. -/
def mixN {α : Type} (r a b : Nat) (f : Nat → Nat → α) : α :=
  force (addN a b) fun a' => force (Nat.xor (rotlN b r) a') fun b' => f a' b'

/-- Four rounds on numbers. -/
def mix4N {α : Type} (r₀ r₁ r₂ r₃ a b : Nat) (f : Nat → Nat → α) : α :=
  mixN r₀ a b fun a b => mixN r₁ a b fun a b => mixN r₂ a b fun a b => mixN r₃ a b f

/-- An injection on numbers; `i` is already added to the second key word. -/
def injectN {α : Type} (k l a b : Nat) (f : Nat → Nat → α) : α :=
  force (addN a k) fun a' => force (addN b l) fun b' => f a' b'

/-- The mixing function on numbers: the key words `k₀ k₁ k₂` and the second one of each injection with its number added. -/
def threefryN {α : Type} (k₀ k₁ k₂ l₁ l₂ l₃ l₄ l₅ x y : Nat) (f : Nat → Nat → α) : α :=
  injectN k₀ k₁ x y fun a b => mix4N 13 15 26 6 a b fun a b => injectN k₁ l₁ a b fun a b => mix4N 17 29 16 24 a b fun a b =>
  injectN k₂ l₂ a b fun a b => mix4N 13 15 26 6 a b fun a b => injectN k₀ l₃ a b fun a b => mix4N 17 29 16 24 a b fun a b =>
  injectN k₁ l₄ a b fun a b => mix4N 13 15 26 6 a b fun a b => injectN k₂ l₅ a b f

/-- The sum on numbers is the words' sum. -/
theorem addN_eq (x y : Word) : addN x.toNat y.toNat = (x + y).toNat := by
  rw [BitVec.toNat_add]; rfl

/-- The rotation on numbers is the words' rotation. -/
theorem rotlN_eq (x : Word) (r : Nat) : rotlN x.toNat r = (rotl x r).toNat := by
  unfold rotl
  rw [BitVec.toNat_or, BitVec.toNat_shiftLeft, BitVec.toNat_ushiftRight]; rfl

/-- The round on numbers is the words' round. -/
theorem mixN_eq {α : Type} (r : Nat) (p : Word × Word) (f : Nat → Nat → α) :
    mixN r p.1.toNat p.2.toNat f = f (mix r p).1.toNat (mix r p).2.toNat := by
  unfold mixN mix
  rw [force_eq, force_eq, addN_eq, rotlN_eq, BitVec.toNat_xor]; rfl

/-- Four rounds on numbers are four rounds on words. -/
theorem mix4N_eq {α : Type} (r₀ r₁ r₂ r₃ : Nat) (p : Word × Word) (f : Nat → Nat → α) :
    mix4N r₀ r₁ r₂ r₃ p.1.toNat p.2.toNat f = f (mix4 r₀ r₁ r₂ r₃ p).1.toNat (mix4 r₀ r₁ r₂ r₃ p).2.toNat := by
  unfold mix4N mix4
  rw [mixN_eq, mixN_eq, mixN_eq, mixN_eq]

/-- The key added in on numbers is the key added in on words. -/
theorem injectN_eq {α : Type} (a b i : Word) (p : Word × Word) (f : Nat → Nat → α) :
    injectN a.toNat (b + i).toNat p.1.toNat p.2.toNat f = f (inject a b i p).1.toNat (inject a b i p).2.toNat := by
  unfold injectN inject
  rw [force_eq, force_eq, addN_eq, addN_eq, BitVec.add_assoc]

/-- The function on numbers is the function on words. -/
theorem threefryN_eq {α : Type} (k x : Word × Word) (f : Nat → Nat → α) :
    threefryN k.1.toNat k.2.toNat (third k).toNat (third k + 1#32).toNat (k.1 + 2#32).toNat (k.2 + 3#32).toNat (third k + 4#32).toNat
      (k.1 + 5#32).toNat x.1.toNat x.2.toNat f = f (threefry k x).1.toNat (threefry k x).2.toNat := by
  unfold threefryN threefry
  have h0 : ∀ g : Nat → Nat → α, injectN k.1.toNat k.2.toNat x.1.toNat x.2.toNat g = g (x.1 + k.1).toNat (x.2 + k.2).toNat := fun g => by
    unfold injectN
    rw [force_eq, force_eq, addN_eq, addN_eq]
  rw [h0, mix4N_eq 13 15 26 6 (x.1 + k.1, x.2 + k.2), injectN_eq, mix4N_eq, injectN_eq, mix4N_eq, injectN_eq, mix4N_eq, injectN_eq, mix4N_eq,
    injectN_eq]

end Cert.Proof
-- ==== Proof.Words.lean ====
/- Facts about the shuffle's random words, established by working them out: a row's first-round words are distinct and none is the largest
   word, and a row's bound is one of its second-round words with exactly fifty-four words at most it. -/
module

public import proofs.«01_k».proof.Proof.Cipher
public import Mathlib.Algebra.BigOperators.Intervals
public import Mathlib.Data.Set.Function
public import Mathlib.Data.Fintype.Card

@[expose] public section

namespace Cert.Proof

/-! ## Marking numbers in a bit set -/

/-- Marks `f s, …, f (s + n - 1)` in the bit set `acc`; zero if one of them is already marked. -/
def scan (f : Nat → Nat) (n : Nat) : Nat → Nat → Nat :=
  Nat.rec (motive := fun _ => Nat → Nat → Nat) (fun _ acc => acc)
    (fun _ go s acc => force (f s) fun i => force (Nat.land (Nat.shiftRight acc i) 1) fun t =>
      Nat.rec (motive := fun _ => Nat) (force (Nat.lor acc (Nat.shiftLeft 1 i)) fun acc' => go (Nat.succ s) acc') (fun _ _ => 0) t) n

/-- `scan` over `m` blocks of `n` positions each, from position `s` on. -/
def scanBlocks (f : Nat → Nat) (n m : Nat) : Nat → Nat → Nat :=
  Nat.rec (motive := fun _ => Nat → Nat → Nat) (fun _ acc => acc)
    (fun _ go s acc => force (scan f n s acc) fun a =>
      Nat.rec (motive := fun _ => Nat) 0 (fun a' _ => go (Nat.add s n) (Nat.succ a')) a) m

/-- `acc` marks `u` and the values of `f` before position `s`; these are all different. -/
structure Marks (f : Nat → Nat) (u s acc : Nat) : Prop where
  mem : ∀ i, acc.testBit i = true ↔ i = u ∨ ∃ p < s, f p = i
  inj : ∀ p < s, ∀ q < s, f p = f q → p = q
  ne : ∀ p < s, f p ≠ u

/-- A bit read by shifting and masking. -/
theorem land_shiftRight (acc i : Nat) : Nat.land (Nat.shiftRight acc i) 1 = (acc.testBit i).toNat := by
  change (acc >>> i) &&& 1 = _
  rw [Nat.and_one_is_mod, Nat.testBit_eq_decide_div_mod_eq, Nat.shiftRight_eq_div_pow]
  rcases Nat.mod_two_eq_zero_or_one (acc / 2 ^ i) with h | h <;> simp [h]

/-- One step of the scan. -/
theorem scan_succ (f : Nat → Nat) (n s acc : Nat) :
    scan f (n + 1) s acc = if acc.testBit (f s) then 0 else scan f n (s + 1) (acc ||| 1 <<< f s) := by
  have h : scan f (n + 1) s acc = force (f s) fun i => force (Nat.land (Nat.shiftRight acc i) 1) fun t =>
      Nat.rec (motive := fun _ => Nat) (force (Nat.lor acc (Nat.shiftLeft 1 i)) fun acc' => scan f n (Nat.succ s) acc') (fun _ _ => 0) t := rfl
  rw [h, force_eq, force_eq, land_shiftRight]
  cases acc.testBit (f s)
  · change force _ _ = _
    rw [force_eq]; rfl
  · rfl

/-- One more position marked. -/
theorem Marks.step {f : Nat → Nat} {u s acc : Nat} (h : Marks f u s acc) (hs : acc.testBit (f s) = false) :
    Marks f u (s + 1) (acc ||| 1 <<< f s) := by
  have hn : ¬ (f s = u ∨ ∃ p < s, f p = f s) := fun hc => by simp [(h.mem _).2 hc] at hs
  refine ⟨fun i => ?_, fun p hp q hq e => ?_, fun p hp e => ?_⟩
  · rw [Nat.testBit_or, Bool.or_eq_true, h.mem, Nat.one_shiftLeft, Nat.testBit_two_pow, decide_eq_true_eq]
    constructor
    · rintro ((h | ⟨p, hp, e⟩) | e)
      exacts [.inl h, .inr ⟨p, by omega, e⟩, .inr ⟨s, by omega, e⟩]
    · rintro (h | ⟨p, hp, e⟩)
      · exact .inl (.inl h)
      · rcases Nat.lt_succ_iff_lt_or_eq.1 hp with hp | rfl
        exacts [.inl (.inr ⟨p, hp, e⟩), .inr e]
  · rcases Nat.lt_succ_iff_lt_or_eq.1 hp with hp | rfl <;> rcases Nat.lt_succ_iff_lt_or_eq.1 hq with hq | rfl
    · exact h.inj p hp q hq e
    · exact absurd (.inr ⟨p, hp, e⟩) hn
    · exact absurd (.inr ⟨q, hq, e.symm⟩) hn
    · rfl
  · rcases Nat.lt_succ_iff_lt_or_eq.1 hp with hp | rfl
    exacts [h.ne p hp e, hn (.inl e)]

/-- A scan that does not end at zero has marked its positions. -/
theorem Marks.scan {f : Nat → Nat} {u : Nat} (n : Nat) : ∀ {s acc : Nat}, Marks f u s acc → scan f n s acc ≠ 0 →
    Marks f u (s + n) (scan f n s acc) := by
  induction n with
  | zero => exact fun h _ => h
  | succ n ih =>
    intro s acc h hz
    rw [scan_succ] at hz ⊢
    cases ht : acc.testBit (f s)
    · simp only [ht, Bool.false_eq_true, if_false] at hz ⊢
      have := ih (h.step ht) hz
      rwa [Nat.add_assoc, Nat.add_comm 1] at this
    · simp [ht] at hz

/-- One block of the scan. -/
theorem scanBlocks_succ (f : Nat → Nat) (n m s acc : Nat) :
    scanBlocks f n (m + 1) s acc = if scan f n s acc = 0 then 0 else scanBlocks f n m (s + n) (scan f n s acc) := by
  change force (scan f n s acc) _ = _
  rw [force_eq]
  cases scan f n s acc <;> rfl

/-- A scan in blocks that does not end at zero has marked its positions. -/
theorem Marks.scanBlocks {f : Nat → Nat} {u n : Nat} (m : Nat) : ∀ {s acc : Nat}, Marks f u s acc → scanBlocks f n m s acc ≠ 0 →
    Marks f u (s + m * n) (scanBlocks f n m s acc) := by
  induction m with
  | zero => intro s acc h _; rw [Nat.zero_mul]; exact h
  | succ m ih =>
    intro s acc h hz
    rw [scanBlocks_succ] at hz ⊢
    by_cases h0 : Proof.scan f n s acc = 0
    · simp [h0] at hz
    · rw [if_neg h0] at hz ⊢
      have := ih (h.scan n h0) hz
      rwa [Nat.add_assoc, show n + m * n = (m + 1) * n by ring] at this

/-- Before the scan only the excluded number is marked. -/
theorem marks_zero (f : Nat → Nat) (u : Nat) : Marks f u 0 (1 <<< u) :=
  ⟨fun i => by rw [Nat.one_shiftLeft, Nat.testBit_two_pow]; simp [eq_comm], by omega, by omega⟩

/-! ## Counting -/

/-- `acc` and the number of positions from `s` on, `n` of them, whose value is at most `V`. -/
def tally (f : Nat → Nat) (V n : Nat) : Nat → Nat → Nat :=
  Nat.rec (motive := fun _ => Nat → Nat → Nat) (fun _ acc => acc)
    (fun _ go s acc => force (Nat.add acc (Nat.sub 1 (Nat.sub (f s) V))) fun a => go (Nat.succ s) a) n

/-- `tally` over `m` blocks of `n` positions each, from position `s` on. -/
def tallyBlocks (f : Nat → Nat) (V n m : Nat) : Nat → Nat → Nat :=
  Nat.rec (motive := fun _ => Nat → Nat → Nat) (fun _ acc => acc)
    (fun _ go s acc => force (tally f V n s acc) fun a => go (Nat.add s n) a) m

/-- The tally counts the words at most `V`. -/
theorem tally_eq (f : Nat → Nat) (V n : Nat) : ∀ s acc : Nat,
    tally f V n s acc = acc + ∑ j ∈ Finset.range n, if f (s + j) ≤ V then 1 else 0 := by
  induction n with
  | zero => intro s acc; rfl
  | succ n ih =>
    intro s acc
    change force _ _ = _
    rw [force_eq, Finset.sum_range_succ']
    change tally f V n (s + 1) _ = _
    rw [ih]
    have : Nat.sub 1 (Nat.sub (f s) V) = if f s ≤ V then 1 else 0 := by
      change 1 - (f s - V) = _
      split <;> omega
    rw [this, show s + 0 = s from rfl, Finset.sum_congr rfl fun j _ => by rw [show s + 1 + j = s + (j + 1) by omega]]
    change acc + _ + _ = _
    omega

/-- The tally by blocks counts the words at most `V`. -/
theorem tallyBlocks_eq (f : Nat → Nat) (V n m : Nat) : ∀ s acc : Nat,
    tallyBlocks f V n m s acc = acc + ∑ j ∈ Finset.range (m * n), if f (s + j) ≤ V then 1 else 0 := by
  induction m with
  | zero => intro s acc; rw [Nat.zero_mul]; rfl
  | succ m ih =>
    intro s acc
    change force _ _ = _
    rw [force_eq]
    change tallyBlocks f V n m (s + n) _ = _
    rw [ih, tally_eq, show (m + 1) * n = n + m * n by ring, Finset.sum_range_add, Nat.add_assoc]
    simp only [Nat.add_assoc]

/-! ## The rows -/

/-- Row `b`'s key of the first round. -/
def key1 (b : Fin 4) : Word × Word := match b with
  | 0 => (1705926158#32, 899080142#32)
  | 1 => (2350016172#32, 1168365246#32)
  | 2 => (2853785955#32, 313133857#32)
  | 3 => (1914800406#32, 1741898942#32)

/-- Row `b`'s key of the second round. -/
def key2 (b : Fin 4) : Word × Word := match b with
  | 0 => (1712723395#32, 2526649282#32)
  | 1 => (98910778#32, 3934144064#32)
  | 2 => (238974442#32, 3901418613#32)
  | 3 => (3887732801#32, 3627665616#32)

/-- Row `b`'s bound: its fifty-fourth smallest word of the second round. -/
def bound (b : Fin 4) : Word := match b with
  | 0 => 32490016#32
  | 1 => 34609047#32
  | 2 => 28135075#32
  | 3 => 26579446#32

/-- Where row `b`'s bound stands. -/
def boundAt (b : Fin 4) : Nat := match b with
  | 0 => 3862
  | 1 => 7320
  | 2 => 4618
  | 3 => 669

/-- For each value of a word's top eight bits a modulus under which row `b`'s words with these bits stay distinct, nine bits each. -/
def moduli (b : Fin 4) : Nat := match b with
  | 0 => 996543129284355576693075479812575618046065610211396637384082917644010696605366471961718495780356505450146859946649730618506264589528111100629310854596789354394129056524051732749141325115698880315072894744052533806848870735323309386266759324080666548164703829503900805932226712319902859212958044544229726636243877896400956821341626892462231324980427936474665751014063022736709874793582362556856698953811571099714332206113675309015032781353940851047225148297587936456644890821174663910195356767356532186479059326364854185105030560022949090967053478044032572953195645060793841433802484723021506857677378105756863788517453310281364602311610743737099446698102366197897062409285388982129541510168755
  | 1 => 1499185669027868267196659266283604308955835230530611088868412033073587515906716472383907179099831197672276832652009820443751848927989300492918182101515912668751551708684184135929158618229092362308623413604982539098888250810053700563881500344692221226258897848903340631310950089967742924059479540947668758982922876098848498202311432528237923419758457938387152217886248703094239467935937886771764052435078322068016077283351473320150425800468826375407368663745607566326096808004882668311679557438723474300085470350128225744725487004881528732978177346655534904083288928862441836983265731182038664713459998728180735104973266836998175037332308380831571967924009930301083800147325986008402069223721089
  | 2 => 989533955501138457035890920459687476944323898165772595523844011096273537618138711161913135432776179264207785435963692789699740418627366768901698147741002738708010676778550485406749144836945306313042432537524433936418362072848752924018869681946024775740508263869608091537233847589750316231819193024974038044465749987915633962575653470015132768753618755446476013584374137010793456909851311249588886066258687774883001397466377861113386292740542761854676465001020338294704075387945065850521804240766984625961177240025872162546787788003995352616494882064434799028436924526274182142304178135509476343206901825837077659297913359310544623954206281517740594978312908005005249937091202801464285560635084
  | 3 => 639203134910513257967501179591379438071331878551271184674470883056576591265953612051252309787888414424739851580120273772402352932468519740671274647142443225517495548109638644447733291749463402071233303656680391606597013063988492070419792522013126743096491146088909903159942706496772901157376692479060402013248713163606242446391926269093485288300963741736062589797216647486495009884318115133613098188510050647020279877864557016692326246449392124686051007719518813168222370372950891993382437237156316791882529002130851089106836351670182371148439891962680558116814094582742424618751039160060911277193695605543639194947119288913797667474754311326964735917886390331579804692894072233035513837954199

/-- The rows' first-round keys, worked out. -/
theorem key1_eq (b : Fin 4) : child (rowKey (BitVec.ofNat 32 b)) 1#32 = key1 b := by
  revert b; decide +kernel

/-- The rows' second-round keys, worked out. -/
theorem key2_eq (b : Fin 4) : child (child (rowKey (BitVec.ofNat 32 b)) 0#32) 1#32 = key2 b := by
  revert b; decide +kernel

/-- The random word of the key `k` at position `p`, on numbers, handed to `g`. -/
def bitsN (k₀ k₁ k₂ l₁ l₂ l₃ l₄ l₅ : Nat) (g : Nat → Nat) (p : Nat) : Nat :=
  threefryN k₀ k₁ k₂ l₁ l₂ l₃ l₄ l₅ 0 p fun x y => force (Nat.xor x y) g

/-- `bitsN` with the key words of `k` worked out. -/
def wordsN (k : Word × Word) (g : Nat → Nat) : Nat → Nat :=
  bitsN k.1.toNat k.2.toNat (third k).toNat (third k + 1#32).toNat (k.1 + 2#32).toNat (k.2 + 3#32).toNat (third k + 4#32).toNat
    (k.1 + 5#32).toNat g

/-- The words on numbers are the random words. -/
theorem wordsN_eq (k : Word × Word) (g : Nat → Nat) {p : Nat} (hp : p < 8183) :
    wordsN k g p = g (bitsOf k (BitVec.ofNat 32 p)).toNat := by
  have h := threefryN_eq k (0#32, BitVec.ofNat 32 p) (fun x y => force (Nat.xor x y) g)
  rw [show (BitVec.ofNat 32 p).toNat = p by rw [BitVec.toNat_ofNat]; omega] at h
  refine h.trans ?_
  rw [force_eq]
  unfold bitsOf child
  rw [BitVec.toNat_xor]; rfl

/-- Where a word is marked: its modulus' remainder in the stretch of its top eight bits. -/
def slot (tab v : Nat) : Nat :=
  Nat.add (Nat.mul (Nat.shiftRight v 24) 512) (Nat.mod v (Nat.mod (Nat.shiftRight tab (Nat.mul 9 (Nat.shiftRight v 24))) 512))

/-- The whole scan of row `b`'s first-round words. -/
def scanRow (b : Fin 4) : Nat :=
  force (key1 b).1.toNat fun k₀ => force (key1 b).2.toNat fun k₁ => force (third (key1 b)).toNat fun k₂ =>
  force (third (key1 b) + 1#32).toNat fun l₁ => force ((key1 b).1 + 2#32).toNat fun l₂ => force ((key1 b).2 + 3#32).toNat fun l₃ =>
  force (third (key1 b) + 4#32).toNat fun l₄ => force ((key1 b).1 + 5#32).toNat fun l₅ => force (moduli b) fun tab =>
    scanBlocks (bitsN k₀ k₁ k₂ l₁ l₂ l₃ l₄ l₅ (slot tab)) 49 167 0 (Nat.shiftLeft 1 (slot tab 4294967295))

/-- The count over row `b`'s second-round words. -/
def tallyRow (b : Fin 4) : Nat :=
  force (key2 b).1.toNat fun k₀ => force (key2 b).2.toNat fun k₁ => force (third (key2 b)).toNat fun k₂ =>
  force (third (key2 b) + 1#32).toNat fun l₁ => force ((key2 b).1 + 2#32).toNat fun l₂ => force ((key2 b).2 + 3#32).toNat fun l₃ =>
  force (third (key2 b) + 4#32).toNat fun l₄ => force ((key2 b).1 + 5#32).toNat fun l₅ => force (bound b).toNat fun V =>
    tallyBlocks (bitsN k₀ k₁ k₂ l₁ l₂ l₃ l₄ l₅ fun v => v) V 49 167 0 0

/-- No row's scan meets a number twice. -/
theorem scanRow_ne : ∀ b : Fin 4, scanRow b ≠ 0 := by decide +kernel

/-- Every row's tally is fifty-four. -/
theorem tallyRow_eq : ∀ b : Fin 4, tallyRow b = 54 := by decide +kernel

/-- The rows' bounds are the words at `boundAt`, and lie below the largest word. -/
theorem bits2_boundAt (b : Fin 4) : boundAt b < 8183 ∧ bitsOf (key2 b) (BitVec.ofNat 32 (boundAt b)) = bound b ∧ (bound b).toNat < 4294967295 := by
  revert b; decide +kernel

/-- Row `b`'s random word of the first round at position `p`, as a number. -/
def word1 (b : Fin 4) (p : Nat) : Nat := (bits1 (BitVec.ofNat 32 b) (BitVec.ofNat 32 p)).toNat

/-- Row `b`'s random word of the second round at position `p`, as a number. -/
def word2 (b : Fin 4) (p : Nat) : Nat := (bits2 (BitVec.ofNat 32 b) (BitVec.ofNat 32 p)).toNat

/-- A row's scan has marked all its first-round words. -/
theorem marks_row (b : Fin 4) : Marks (wordsN (key1 b) (slot (moduli b))) (slot (moduli b) 4294967295) 8183 (scanRow b) := by
  have h : scanRow b = scanBlocks (wordsN (key1 b) (slot (moduli b))) 49 167 0 (1 <<< slot (moduli b) 4294967295) := by
    simp only [scanRow, force_eq]; rfl
  have h2 := h ▸ scanRow_ne b
  have := (marks_zero (wordsN (key1 b) (slot (moduli b))) (slot (moduli b) 4294967295)).scanBlocks 167 h2
  rw [h]; exact this

/-- The first-round words under the keys worked out. -/
theorem word1_eq (b : Fin 4) (p : Nat) : word1 b p = (bitsOf (key1 b) (BitVec.ofNat 32 p)).toNat := by
  rw [word1, bits1, key1_eq]

/-- The second-round words under the keys worked out. -/
theorem word2_eq (b : Fin 4) (p : Nat) : word2 b p = (bitsOf (key2 b) (BitVec.ofNat 32 p)).toNat := by
  rw [word2, bits2, key2_eq]

/-- A row's first-round words are distinct. -/
theorem word1_inj (b : Fin 4) {p q : Nat} (hp : p < 8183) (hq : q < 8183) (h : word1 b p = word1 b q) : p = q := by
  refine (marks_row b).inj p hp q hq ?_
  rw [wordsN_eq _ _ hp, wordsN_eq _ _ hq, ← word1_eq, ← word1_eq, h]

/-- A row's first-round words lie below the largest word. -/
theorem word1_lt (b : Fin 4) {p : Nat} (hp : p < 8183) : word1 b p < 4294967295 := by
  refine Nat.lt_of_le_of_ne (Nat.le_of_lt_succ (bits1 _ _).isLt) fun h => (marks_row b).ne p hp ?_
  rw [wordsN_eq _ _ hp, ← word1_eq, h]

/-- Exactly fifty-four of a row's second-round words are at most its bound. -/
theorem word2_count (b : Fin 4) : ((Finset.range 8183).filter fun p => word2 b p ≤ (bound b).toNat).card = 54 := by
  have h := tallyRow_eq b
  have h2 : tallyRow b = tallyBlocks (wordsN (key2 b) fun v => v) (bound b).toNat 49 167 0 0 := by
    simp only [tallyRow, force_eq]; rfl
  rw [h2, tallyBlocks_eq, Nat.zero_add] at h
  rw [Finset.card_filter, ← h]
  refine Finset.sum_congr rfl fun p hp => ?_
  rw [Nat.zero_add, wordsN_eq _ _ (Finset.mem_range.1 hp), word2_eq]

/-- A row's bound is the word at `boundAt`. -/
theorem word2_boundAt (b : Fin 4) : boundAt b < 8183 ∧ word2 b (boundAt b) = (bound b).toNat ∧ (bound b).toNat < 4294967295 := by
  obtain ⟨h1, h2, h3⟩ := bits2_boundAt b
  exact ⟨h1, by rw [word2_eq, h2], h3⟩

end Cert.Proof
-- ==== Proof.Threshold.lean ====
/- The kernel's random words at a position, and its search: it ends at the row's bound, so that the kernel picks exactly the positions whose
   second-round word is at most the bound. -/
module

public import proofs.«01_k».proof.Proof.Gen.KernelIdeal.Frame
public import proofs.«01_k».proof.Proof.Sorted
public import proofs.«01_k».proof.Proof.Words
public import Idealize.ShloMosaic.Lib.Pointwise

@[expose] public section

noncomputable section

namespace Cert.Proof

open Idealize.ShloMosaic Idealize.ShloMosaic.TcCoe Cert.KernelIdeal Cert.KernelIdeal.Gen

/-- The words with the top bit flipped, and the largest signed word past the row's end. -/
def padded (x : Words) : Words :=
  select (cmpi .slt flat (broadcast S4x64x128 8183#32)) (xori x (broadcast S4x64x128 2147483648#32)) (broadcast S4x64x128 2147483647#32)

/-- The second round's keys. -/
def secondKeys : Words := padded fun j => bits2 (BitVec.ofNat 32 (0 * 4 + (j 0).val)) (flat j)

/-- The first round's keys. -/
def firstKeys : Words := padded fun j => bits1 (BitVec.ofNat 32 (0 * 4 + (j 0).val)) (flat j)

/-- The kernel's first keys are the first-round words, padded. -/
theorem firstKeys_at (j : S4x64x128.Idx) : kernelRun0_A.sl.v685 j = firstKeys j := by sl_kernel_rfl

/-- The kernel's second keys are the second-round words, padded. -/
theorem secondKeys_at (j : S4x64x128.Idx) : k0_pay270 (xori kernelRun0_A.sl.v1017 kernelRun0_A.sl.v680)
    (cmpi .slt kernelRun0_A.sl.v4 kernelRun0_A.sl.v682) 2147483647#32 j = secondKeys j := by sl_kernel_rfl

/-- Flipping the top bit turns the unsigned into the signed order. -/
theorem toInt_flip (x : BitVec 32) : (x ^^^ 2147483648#32).toInt = (x.toNat : Int) - 2147483648 := by
  have h := x.isLt
  have h1 : (x.toNat ^^^ 2 ^ 31) / 2 ^ 31 = (x.toNat / 2 ^ 31) ^^^ 1 := Nat.xor_div_two_pow
  have h2 : (x.toNat ^^^ 2 ^ 31) % 2 ^ 31 = x.toNat % 2 ^ 31 := by
    rw [Nat.xor_mod_two_pow, Nat.mod_self, Nat.xor_zero]
  have h3 : (x ^^^ 2147483648#32).toNat = x.toNat ^^^ 2 ^ 31 := by rw [BitVec.toNat_xor]; rfl
  rw [BitVec.toInt_eq_toNat_cond, h3]
  have h4 : x.toNat / 2 ^ 31 = 0 ∨ x.toNat / 2 ^ 31 = 1 := by omega
  rcases h4 with h4 | h4
  · rw [h4] at h1
    have : (0 ^^^ 1 : Nat) = 1 := rfl
    rw [if_neg (by omega)]; omega
  · rw [h4] at h1
    have : (1 ^^^ 1 : Nat) = 0 := rfl
    rw [if_pos (by omega)]; omega

/-- A padded word as a signed number. -/
theorem padded_place (x : Words) (b : Fin 4) (i : Fin (2 ^ 13)) :
    (padded x (place b i)).toInt = if i.val < 8183 then ((x (place b i)).toNat : Int) - 2147483648 else 2147483647 := by
  have h : padded x (place b i) = if BitVec.ofBool ((flat (place b i)).slt 8183#32) = 1#1 then x (place b i) ^^^ 2147483648#32 else 2147483647#32 := rfl
  have hi := i.isLt
  have hs : (BitVec.ofNat 32 i.val).slt 8183#32 = decide (i.val < 8183) := by
    have e : (BitVec.ofNat 32 i.val).toInt = i.val := by
      rw [BitVec.toInt_eq_toNat_cond, BitVec.toNat_ofNat, Nat.mod_eq_of_lt (by omega), if_pos (by omega)]
    have e2 : (8183#32 : BitVec 32).toInt = 8183 := rfl
    rw [BitVec.slt, e, e2]
    exact decide_eq_decide.2 (by omega)
  rw [h, flat_place, hs]
  by_cases hc : i.val < 8183
  · rw [decide_eq_true hc, if_pos (by decide), if_pos hc, toInt_flip]
  · rw [decide_eq_false hc, if_neg (by decide), if_neg hc]; rfl

/-- The first round's keys, signed. -/
theorem firstKeys_place (b : Fin 4) (i : Fin (2 ^ 13)) :
    (firstKeys (place b i)).toInt = if i.val < 8183 then (word1 b i : Int) - 2147483648 else 2147483647 := by
  rw [firstKeys, padded_place, flat_place, word1]
  have : BitVec.ofNat 32 (0 * 4 + (place b i 0).val) = BitVec.ofNat 32 b.val := by
    rw [Nat.zero_mul, Nat.zero_add]; rfl
  rw [this]

/-- The second-round word, the largest past the row's end. -/
def padWord (b : Fin 4) (i : Fin (2 ^ 13)) : Nat := if i.val < 8183 then word2 b i else 4294967295

/-- The second round's keys, signed. -/
theorem secondKeys_place (b : Fin 4) (i : Fin (2 ^ 13)) : (secondKeys (place b i)).toInt = (padWord b i : Int) - 2147483648 := by
  rw [secondKeys, padded_place, flat_place, padWord]
  have : BitVec.ofNat 32 (0 * 4 + (place b i 0).val) = BitVec.ofNat 32 b.val := by
    rw [Nat.zero_mul, Nat.zero_add]; rfl
  rw [this]
  split
  · rfl
  · rfl

/-- A row's value in an array of one word for each row. -/
def rowAt (b : Fin 4) : S4x1x1.Idx := ix3 b (0 : Fin 1) (0 : Fin 1)

/-- How many words of row `b` lie below `u`. -/
def countBelow (b : Fin 4) (u : Nat) : Nat := (Finset.univ.filter fun i : Fin (2 ^ 13) => padWord b i < u).card

/-- At most the bound are as many as fifty-four words: a count reaches it exactly above the bound. -/
theorem countBelow_iff (b : Fin 4) (u : Nat) (hu : u < 2 ^ 32) : 54 ≤ countBelow b u ↔ (bound b).toNat < u := by
  obtain ⟨ha, hb, hc⟩ := word2_boundAt b
  have hcard := word2_count b
  have himg : ∀ v : Nat, v ≤ 4294967295 → countBelow b v = ((Finset.range 8183).filter fun p => word2 b p < v).card := by
    intro v hv
    refine Finset.card_bij (fun i _ => i.val) (fun i hi => ?_) (fun i _ j _ e => Fin.ext e) (fun p hp => ?_)
    · have hi := (Finset.mem_filter.1 hi).2
      unfold padWord at hi
      split at hi
      · exact Finset.mem_filter.2 ⟨Finset.mem_range.2 ‹_›, hi⟩
      · omega
    · obtain ⟨h1, h2⟩ := Finset.mem_filter.1 hp
      have h1 := Finset.mem_range.1 h1
      exact ⟨⟨p, by omega⟩, Finset.mem_filter.2 ⟨Finset.mem_univ _, by unfold padWord; rw [if_pos h1]; exact h2⟩, rfl⟩
  rw [himg u (by omega)]
  constructor
  · intro h
    by_contra hn
    have hss : ((Finset.range 8183).filter fun p => word2 b p < u) ⊂ (Finset.range 8183).filter fun p => word2 b p ≤ (bound b).toNat := by
      refine Finset.ssubset_iff_of_subset (fun p hp => ?_) |>.2 ⟨boundAt b, ?_, fun hm => ?_⟩
      · exact Finset.mem_filter.2 ⟨(Finset.mem_filter.1 hp).1, by have := (Finset.mem_filter.1 hp).2; omega⟩
      · exact Finset.mem_filter.2 ⟨Finset.mem_range.2 ha, by omega⟩
      · have := (Finset.mem_filter.1 hm).2; omega
    have := Finset.card_lt_card hss
    omega
  · intro h
    rw [← hcard]
    refine Finset.card_le_card fun p hp => ?_
    exact Finset.mem_filter.2 ⟨(Finset.mem_filter.1 hp).1, by have := (Finset.mem_filter.1 hp).2; omega⟩

/-- The constant one. -/
theorem one_f32 : Ideal.ofBits .f32 0x3F800000#32 = 1 := by simp [Ideal.ofBits, Ideal.ieee, -EReal.coe_mul]; norm_num

/-- The constant fifty-four. -/
theorem fiftyFour_f32 : Ideal.ofBits .f32 0x42580000#32 = ((54 : ℕ) : EReal) := by
  simp [Ideal.ofBits, Ideal.ieee, -EReal.coe_mul]; norm_num; rfl

/-- A row's sum over both position axes is the sum over its positions. -/
theorem sum_place (b : Fin 4) (v : S4x64x128.Idx → EReal) :
    (∑ h : Fin 64, ∑ l : Fin 128, v (ix3 b h l)) = ∑ i : Fin (2 ^ 13), v (place b i) := by
  rw [← Fintype.sum_prod_type' fun (h : Fin 64) (l : Fin 128) => v (ix3 b h l)]
  refine Fintype.sum_equiv (finProdFinEquiv.trans (finCongr (by decide))) _ _ fun x => congrArg v ?_
  obtain ⟨h, l⟩ := x
  unfold place
  refine congrArg₂ (ix3 b) (Fin.ext ?_) (Fin.ext ?_)
  · have := l.isLt
    change h.val = (l.val + 128 * h.val) / 128
    omega
  · have := l.isLt
    change l.val = (l.val + 128 * h.val) % 128
    omega

/-- A sum of ones and zeros counts. -/
theorem sum_ones {ι : Type} [Fintype ι] (p : ι → Prop) [DecidablePred p] :
    (∑ i : ι, if p i then (1 : EReal) else 0) = ((Finset.univ.filter p).card : EReal) := by
  rw [Finset.sum_ite, Finset.sum_const, Finset.sum_const_zero, add_zero, nsmul_one]

/-- One trip of the search on a row's word: the bit of the trip is kept unless that passes the bound. -/
def searchStep (b : Fin 4) (t : Fin k0_t1_loop.trips) (v : Word) : Word :=
  if (bound b).toNat < (v ||| Scalar.shli 1#32 (Scalar.subi 31#32 (Scf.iv 0#32 1#32 t))).toNat then v
  else v ||| Scalar.shli 1#32 (Scalar.subi 31#32 (Scf.iv 0#32 1#32 t))

/-- Ones where a key is less than the candidate of a trip. -/
def belows (t : Fin k0_t1_loop.trips) (v : IVec S4x1x1 32) : S4x64x128.Idx → EReal :=
  select (cmpi .slt (k0_pay270 (xori kernelRun0_A.sl.v1017 kernelRun0_A.sl.v680) (cmpi .slt kernelRun0_A.sl.v4 kernelRun0_A.sl.v682) 2147483647#32)
    (broadcastTo S4x64x128 (xori (ori v (broadcast S4x1x1 (Scalar.shli 1#32 (Scalar.subi 31#32 (Scf.iv 0#32 1#32 t)))))
      (broadcast S4x1x1 2147483648#32)) broadcasts_S4x1x1_S4x64x128))
    (fun _ => Ideal.ofBits .f32 0x3F800000#32) (fun _ => Ideal.ofBits .f32 0x00000000#32)

/-- A row's word spread over the row. -/
theorem broadcast_place (x : IVec S4x1x1 32) (b : Fin 4) (i : Fin (2 ^ 13)) :
    broadcastTo S4x64x128 x broadcasts_S4x1x1_S4x64x128 (place b i) = x (rowAt b) := by
  refine congrArg x (funext fun a => ?_)
  match a with
  | ⟨0, _⟩ => rfl
  | ⟨1, _⟩ => rfl
  | ⟨2, _⟩ => rfl

/-- A step's comparison: one where the word lies below the candidate. -/
theorem belows_place (t : Fin k0_t1_loop.trips) (v : IVec S4x1x1 32) (b : Fin 4) (i : Fin (2 ^ 13)) :
    belows t v (place b i) = if padWord b i < (v (rowAt b) ||| Scalar.shli 1#32 (Scalar.subi 31#32 (Scf.iv 0#32 1#32 t))).toNat then 1 else 0 := by
  have h : belows t v (place b i) = if BitVec.ofBool ((k0_pay270 (xori kernelRun0_A.sl.v1017 kernelRun0_A.sl.v680)
      (cmpi .slt kernelRun0_A.sl.v4 kernelRun0_A.sl.v682) 2147483647#32 (place b i)).slt
        (broadcastTo S4x64x128 (xori (ori v (broadcast S4x1x1 (Scalar.shli 1#32 (Scalar.subi 31#32 (Scf.iv 0#32 1#32 t)))))
          (broadcast S4x1x1 2147483648#32)) broadcasts_S4x1x1_S4x64x128 (place b i))) = 1#1
      then Ideal.ofBits .f32 0x3F800000#32 else Ideal.ofBits .f32 0x00000000#32 := rfl
  have h2 : (xori (ori v (broadcast S4x1x1 (Scalar.shli 1#32 (Scalar.subi 31#32 (Scf.iv 0#32 1#32 t))))) (broadcast S4x1x1 2147483648#32)) (rowAt b)
      = (v (rowAt b) ||| Scalar.shli 1#32 (Scalar.subi 31#32 (Scf.iv 0#32 1#32 t))) ^^^ 2147483648#32 := rfl
  rw [h, broadcast_place, h2, secondKeys_at, one_f32, Ideal.ofBits_zero_f32, BitVec.slt, secondKeys_place, toInt_flip]
  by_cases hc : padWord b i < (v (rowAt b) ||| Scalar.shli 1#32 (Scalar.subi 31#32 (Scf.iv 0#32 1#32 t))).toNat
  · rw [if_pos hc, decide_eq_true (by omega), if_pos (by decide)]
  · rw [if_neg hc, decide_eq_false (by omega), if_neg (by decide)]

/-- A word for each row, set up as a column. -/
theorem column_row {α : Type} (y : S4.Idx → α) (b : Fin 4) : shapeCast S4x1x1 y shapeCasts_S4_S4x1x1 (rowAt b) = y (ix1 b) := by
  refine congrArg y (funext fun a => ?_)
  match a with
  | ⟨0, _⟩ => fin_cases b <;> rfl

/-- A step of the kernel's search, read at a row. -/
theorem search_trip (b : Fin 4) (t : Fin k0_t1_loop.trips) (v : IVec S4x1x1 32) :
    k0_pay272 (F := Ideal) (xori kernelRun0_A.sl.v1017 kernelRun0_A.sl.v680) (cmpi .slt kernelRun0_A.sl.v4 kernelRun0_A.sl.v682) 2147483647#32 t v (rowAt b)
      = searchStep b t (v (rowAt b)) := by
  have h : k0_pay272 (F := Ideal) (xori kernelRun0_A.sl.v1017 kernelRun0_A.sl.v680) (cmpi .slt kernelRun0_A.sl.v4 kernelRun0_A.sl.v682)
      2147483647#32 t v (rowAt b) =
      if Ideal.cmp .oge (shapeCast S4x1x1 (Ideal.reduceAdd reduces_S4x64x128_S4 (belows t v)) shapeCasts_S4_S4x1x1 (rowAt b))
        (Ideal.ofBits .f32 0x42580000#32) = 1#1 then v (rowAt b)
      else v (rowAt b) ||| Scalar.shli 1#32 (Scalar.subi 31#32 (Scf.iv 0#32 1#32 t)) := by sl_kernel_rfl
  have hc : shapeCast S4x1x1 (Ideal.reduceAdd reduces_S4x64x128_S4 (belows t v)) shapeCasts_S4_S4x1x1 (rowAt b)
      = Ideal.reduceAdd reduces_S4x64x128_S4 (belows t v) (ix1 b) := column_row _ b
  have hs : Ideal.reduceAdd reduces_S4x64x128_S4 (belows t v) (ix1 b)
      = ((countBelow b (v (rowAt b) ||| Scalar.shli 1#32 (Scalar.subi 31#32 (Scf.iv 0#32 1#32 t))).toNat : ℕ) : EReal) := by
    rw [Ideal.reduceAdd_r3_a12]
    refine (sum_place b (belows t v)).trans ?_
    rw [countBelow, ← sum_ones]
    exact Finset.sum_congr rfl fun i _ => belows_place t v b i
  rw [h, hc, hs, fiftyFour_f32, searchStep]
  have hi := countBelow_iff b _ (v (rowAt b) ||| Scalar.shli 1#32 (Scalar.subi 31#32 (Scf.iv 0#32 1#32 t))).isLt
  refine if_congr ?_ rfl rfl
  rw [← hi, ← EReal.natCast_le_iff]
  simp only [Ideal.cmp]
  by_cases hd : ((54 : ℕ) : EReal) ≤ ((countBelow b (v (rowAt b) ||| Scalar.shli 1#32 (Scalar.subi 31#32 (Scf.iv 0#32 1#32 t))).toNat : ℕ) : EReal)
  · simp only [hd, decide_true, iff_true]; rfl
  · simp only [hd, decide_false, iff_false]; decide

/-- The search ends at the row's bound. -/
theorem search_end (b : Fin 4) : kernelRun0_A.sl.r (F := Ideal) (rowAt b) = bound b := by
  have hf : ∀ (L : List (Fin k0_t1_loop.trips)) (v : IVec S4x1x1 32),
      (L.foldl (fun acc t => k0_pay272 (F := Ideal) (xori kernelRun0_A.sl.v1017 kernelRun0_A.sl.v680)
        (cmpi .slt kernelRun0_A.sl.v4 kernelRun0_A.sl.v682) 2147483647#32 t acc) v) (rowAt b) = L.foldl (fun w t => searchStep b t w) (v (rowAt b)) := by
    intro L
    induction L with
    | nil => intro v; rfl
    | cons t L ih => intro v; rw [List.foldl_cons, ih, search_trip, List.foldl_cons]
  unfold kernelRun0_A.sl.r
  rw [Scf.fold_eq, hf]
  have h0 : k0_pay271 (rowAt b) = 0#32 := rfl
  rw [h0]
  clear hf h0
  revert b; decide +kernel

/-- The kernel picks the entries whose words are at most the bound. -/
theorem picked_place (b : Fin 4) (i : Fin (2 ^ 13)) :
    kernelRun0_A.sl.r_1 (F := Ideal) (place b i) = if padWord b i ≤ (bound b).toNat then 1 else 0 := by
  have h : kernelRun0_A.sl.r_1 (F := Ideal) (place b i) = if BitVec.ofBool ((k0_pay270 (xori kernelRun0_A.sl.v1017 kernelRun0_A.sl.v680)
      (cmpi .slt kernelRun0_A.sl.v4 kernelRun0_A.sl.v682) 2147483647#32 (place b i)).sle
        (broadcastTo S4x64x128 (xori (kernelRun0_A.sl.r (F := Ideal)) (broadcast S4x1x1 2147483648#32)) broadcasts_S4x1x1_S4x64x128 (place b i))) = 1#1
      then Ideal.ofBits .f32 0x3F800000#32 else Ideal.ofBits .f32 0x00000000#32 := rfl
  have h2 : (xori (kernelRun0_A.sl.r (F := Ideal)) (broadcast S4x1x1 2147483648#32)) (rowAt b)
      = kernelRun0_A.sl.r (F := Ideal) (rowAt b) ^^^ 2147483648#32 := rfl
  rw [h, broadcast_place, h2, search_end, secondKeys_at, one_f32, Ideal.ofBits_zero_f32, BitVec.sle, secondKeys_place, toInt_flip]
  by_cases hc : padWord b i ≤ (bound b).toNat
  · rw [if_pos hc, decide_eq_true (by omega), if_pos (by decide)]
  · rw [if_neg hc, decide_eq_false (by omega), if_neg (by decide)]

end Cert.Proof

end
-- ==== Proof.Order.lean ====
/- The order of a row's entries by their first-round words, and the mask it leads to. -/
module

public import proofs.«01_k».proof.Proof.Words
public import Mathlib.Order.Monotone.Basic
public import Mathlib.Order.WellFounded
public import Mathlib.Data.Fintype.EquivFin
public import Mathlib.Order.Interval.Finset.Fin

@[expose] public section

namespace Cert.Proof

/-- `f` lists the positions of row `b` so that their first-round words ascend. -/
def IsOrder (b : Fin 4) (f : Fin 8183 → Fin 8183) : Prop := StrictMono fun p => word1 b (f p)

/-- An order lists every position once. -/
theorem IsOrder.injective {b : Fin 4} {f : Fin 8183 → Fin 8183} (h : IsOrder b f) : Function.Injective f := fun p q e =>
  StrictMono.injective h (by simp only [e])

/-- There is only one such list. -/
theorem IsOrder.unique {b : Fin 4} {f g : Fin 8183 → Fin 8183} (hf : IsOrder b f) (hg : IsOrder b g) : f = g := by
  have hr : ∀ {h : Fin 8183 → Fin 8183}, IsOrder b h → Set.range (fun p => word1 b (h p)) = Set.range fun p : Fin 8183 => word1 b p :=
    fun {h} hh => (Finite.injective_iff_surjective.1 hh.injective).range_comp fun p : Fin 8183 => word1 b p
  have := (StrictMono.range_inj hf hg).1 ((hr hf).trans (hr hg).symm)
  exact funext fun p => Fin.ext (word1_inj b (f p).isLt (g p).isLt (congrFun this p))

/-- Position `t` of row `b` is masked: it lies in the span of ten from one of the entries that the first round puts where the second
    round's words are at most the bound. -/
def Masked (b : Fin 4) (t : Nat) : Prop :=
  ∃ f, IsOrder b f ∧ ∃ p : Fin 8183, word2 b p ≤ (bound b).toNat ∧ (f p).val ≤ t ∧ t < (f p).val + 10

/-- Masked positions, told from any one order of the row. -/
theorem masked_iff {b : Fin 4} {f : Fin 8183 → Fin 8183} (hf : IsOrder b f) (t : Nat) :
    Masked b t ↔ ∃ p : Fin 8183, word2 b p ≤ (bound b).toNat ∧ (f p).val ≤ t ∧ t < (f p).val + 10 :=
  ⟨fun ⟨_, hg, h⟩ => hf.unique hg ▸ h, fun h => ⟨f, hf, h⟩⟩

/-- A rearrangement of 8192 positions along which the first-round words ascend, the last nine positions carrying the largest word, begins
    with the order of the first 8183. -/
theorem exists_order (b : Fin 4) (K : Fin (2 ^ 13) → Int) (hK : ∀ i, K i = if i.val < 8183 then (word1 b i : Int) - 2147483648 else 2147483647)
    (σ : Equiv.Perm (Fin (2 ^ 13))) (hσ : Monotone fun i => K (σ i)) :
    ∃ f, IsOrder b f ∧ ∀ p : Fin 8183, (σ ⟨p.val, lt_trans p.isLt (by decide)⟩).val = (f p).val := by
  have hlt : ∀ i : Fin (2 ^ 13), i.val < 8183 ↔ K i < 2147483647 := fun i => by
    rw [hK]
    split
    · have := word1_lt b ‹_›
      omega
    · omega
  have hval : ∀ p : Fin (2 ^ 13), p.val < 8183 → (σ p).val < 8183 := by
    intro p hp
    by_contra hc
    have hsub : (Finset.Ici p).map σ.toEmbedding ⊆ Finset.Ici (⟨8183, by decide⟩ : Fin (2 ^ 13)) := by
      intro x hx
      obtain ⟨q, hq, rfl⟩ := Finset.mem_map.1 hx
      have h1 := hσ (Finset.mem_Ici.1 hq)
      have h2 := mt (hlt (σ p)).2 hc
      have h3 : ¬ (σ q).val < 8183 := fun h => by
        have h4 := (hlt _).1 h
        change K (σ p) ≤ K (σ q) at h1
        omega
      exact Finset.mem_Ici.2 (Fin.mk_le_of_le_val (Nat.le_of_not_lt h3))
    have := Finset.card_le_card hsub
    rw [Finset.card_map, Fin.card_Ici, Fin.card_Ici] at this
    simp only at this
    omega
  refine ⟨fun p => ⟨(σ ⟨p.val, lt_trans p.isLt (by decide)⟩).val, hval _ p.isLt⟩, fun p q hpq => ?_, fun p => rfl⟩
  have hm := hσ (show (⟨p.val, lt_trans p.isLt (by decide)⟩ : Fin (2 ^ 13)) ≤ ⟨q.val, lt_trans q.isLt (by decide)⟩ from le_of_lt hpq)
  have hp := hval ⟨p.val, lt_trans p.isLt (by decide)⟩ p.isLt
  have hq := hval ⟨q.val, lt_trans q.isLt (by decide)⟩ q.isLt
  simp only [hK, if_pos hp, if_pos hq] at hm
  change word1 b (σ _).val < word1 b (σ _).val
  refine Nat.lt_of_le_of_ne (by omega) fun e => ?_
  have := σ.injective (Fin.ext (word1_inj b hp hq e))
  exact absurd (Fin.mk.inj this) (by have := Fin.lt_def.1 hpq; omega)

end Cert.Proof
-- ==== Proof.Rows.lean ====
/- One row of the kernel's output, from the sorted positions, the picked places and the column of numbers: the arrays, and their entries. -/
module

public import proofs.«01_k».proof.Proof.Gen.KernelIdeal.Skeleton
public import proofs.«01_k».proof.Proof.Sorted
public import Idealize.ShloMosaic.Lib.Pointwise
public import Idealize.ShloMosaic.Lib.MatmulPlain

@[expose] public section

noncomputable section

namespace Cert.Proof

open Idealize.ShloMosaic Idealize.ShloMosaic.TcCoe Cert.KernelIdeal Cert.KernelIdeal.Gen

/-- A row can be cut out of the four. -/
theorem slices_row (b : Fin 4) : S4x64x128.Slices ![b.val, 0, 0] S1x64x128 := by revert b; decide

/-- Row `b` of an array, laid out as one line. -/
def rowOf {α : Type} (b : Fin 4) (x : S4x64x128.Idx → α) : S1x8192.Idx → α :=
  shapeCast S1x8192 (shapeCast S64x128 (extractStridedSlice S1x64x128 ![b.val, 0, 0] x (slices_row b)) shapeCasts_S1x64x128_S64x128)
    shapeCasts_S64x128_S1x8192

/-- Which picked places hold a position of the `h`-th block of 128. -/
def highs (b : Fin 4) (picked : FVec Ideal S4x64x128 .f32) (idx : IVec S4x64x128 32) (col : FVec Ideal S128x1 .f32) : FVec Ideal S64x8192 .f32 :=
  select (andi (cmpf .oeq (broadcastTo S64x8192 (sitofp .f32 (shrui (rowOf b idx) (broadcast S1x8192 7#32))) broadcasts_S1x8192_S64x8192)
        (broadcastTo S64x8192 (extractStridedSlice S64x1 ![0, 0] (shapeCast S128x1 col shapeCasts_S128x1_S128x1) slices_S128x1_o0_0_S64x1)
          broadcasts_S64x1_S64x8192))
      (broadcastTo S64x8192 (cmpf .ogt (rowOf b picked) (broadcast S1x8192 (Scalar.ofBits (F := Ideal) .f32 0x00000000#32))) broadcasts_S1x8192_S64x8192))
    (broadcast S64x8192 (Scalar.ofBits (F := Ideal) .f32 0x3F800000#32)) (broadcast S64x8192 (Scalar.ofBits (F := Ideal) .f32 0x00000000#32))

/-- Which places hold a position that is the `l`-th of its block. -/
def lows (b : Fin 4) (idx : IVec S4x64x128 32) (col : FVec Ideal S128x1 .f32) : FVec Ideal S128x8192 .f32 :=
  select (cmpf .oeq (broadcastTo S128x8192 (sitofp .f32 (andi (rowOf b idx) (broadcast S1x8192 127#32))) broadcasts_S1x8192_S128x8192)
        (broadcastTo S128x8192 (shapeCast S128x1 col shapeCasts_S128x1_S128x1) broadcasts_S128x1_S128x8192))
    (broadcast S128x8192 (Scalar.ofBits (F := Ideal) .f32 0x3F800000#32)) (broadcast S128x8192 (Scalar.ofBits (F := Ideal) .f32 0x00000000#32))

/-- How many picked places hold each position. -/
def starts (b : Fin 4) (picked : FVec Ideal S4x64x128 .f32) (idx : IVec S4x64x128 32) (col : FVec Ideal S128x1 .f32) : FVec Ideal S64x128 .f32 :=
  matmul dot_S64x8192_S128x8192_S64x128_1_1_0_0_n_n none (highs b picked idx col) (lows b idx col) (constant S64x128 .f32 0x00000000#32)

/-- The same, one block down. -/
def startsBefore (x : FVec Ideal S64x128 .f32) : FVec Ideal S64x128 .f32 :=
  concatenate S64x128 0 [⟨S1x128, broadcast S1x128 (Scalar.ofBits (F := Ideal) .f32 0x00000000#32)⟩,
    ⟨S63x128, extractStridedSlice S63x128 ![0, 0] x slices_S64x128_o0_0_S63x128⟩] concatenates_S1x128_S63x128_S64x128_d0

/-- The marked positions of a row, from the two masks of spans. -/
def marks (near far : FVec Ideal S128x128 .f32) (x : FVec Ideal S64x128 .f32) : IVec S1x64x128 8 :=
  shapeCast S1x64x128 (extui 8 (cmpf .ogt (addf (matmul dot_S64x128_S128x128_S64x128_1_0_0_1_n_n none x near (constant S64x128 .f32 0x00000000#32))
    (matmul dot_S64x128_S128x128_S64x128_1_0_0_1_n_n none (startsBefore x) far (constant S64x128 .f32 0x00000000#32)))
    (broadcast S64x128 (Scalar.ofBits (F := Ideal) .f32 0x00000000#32))) natLt_1_8) shapeCasts_S64x128_S1x64x128

/-- A row laid out as one line, read at a position. -/
theorem rowOf_at {α : Type} (b : Fin 4) (x : S4x64x128.Idx → α) (p : Fin 8192) : rowOf b x (ix2 0 p) = x (place b p) := by
  unfold rowOf
  pointwise
  rfl

/-- A word that holds a small number, as an extended real. -/
theorem sitofp_small (x : BitVec 32) (n : ℕ) (h : x.toNat = n) (hn : n < 2 ^ 31) : FloatOps.sitofp (F := Ideal) .f32 x = (n : EReal) := by
  have h1 : x.toInt = (n : ℤ) := by rw [BitVec.toInt_eq_toNat_of_lt (by omega), h]
  have h2 : FloatOps.sitofp (F := Ideal) .f32 x = ((x.toInt : ℝ) : EReal) := rfl
  rw [h2, h1, Int.cast_natCast, EReal.coe_coe_eq_natCast]

/-- The number of a truth value. -/
def one (p : Prop) [Decidable p] : ℕ := if p then 1 else 0

/-- One or zero as an extended real. -/
theorem one_cast (p : Prop) [Decidable p] : ((one p : ℕ) : EReal) = if p then 1 else 0 := by
  unfold one; split <;> simp

/-- The count of a proposition is positive exactly when it holds. -/
theorem one_pos (p : Prop) [Decidable p] : 0 < one p ↔ p := by
  unfold one; split <;> simp_all

/-- A product of two numbers is positive exactly when both are. -/
theorem mul_pos_iff_of_nat (m n : ℕ) : 0 < m * n ↔ 0 < m ∧ 0 < n := by
  rw [Nat.pos_iff_ne_zero, Nat.pos_iff_ne_zero, Nat.pos_iff_ne_zero, Nat.mul_ne_zero_iff]

/-- A sum of products of numbers, taken in the extended reals. -/
theorem sum_cast {ι : Type} (s : Finset ι) (f g : ι → EReal) (f' g' : ι → ℕ) (hf : ∀ i, f i = (f' i : EReal)) (hg : ∀ i, g i = (g' i : EReal)) :
    ∑ i ∈ s, f i * g i = ((∑ i ∈ s, f' i * g' i : ℕ) : EReal) := by
  rw [Nat.cast_sum]
  exact Finset.sum_congr rfl fun i _ => by rw [hf, hg, EReal.natCast_mul]

/-- The mask of spans within a line of 128: one where the second position lies in the span of ten from the first. -/
theorem near_at (h l : Fin 128) : k0_pay724 (F := Ideal) k0_pay723 (ix2 h l) = ((one (h.val ≤ l.val ∧ l.val < h.val + 10) : ℕ) : EReal) := by
  have hb : ∀ h l : Fin 128, IntOp.andi (IntOp.cmpi CmpIPredicate.sge (IntOp.subi (BitVec.ofNat 32 l.val) (BitVec.ofNat 32 h.val)) 0#32)
      (IntOp.cmpi CmpIPredicate.slt (IntOp.subi (BitVec.ofNat 32 l.val) (BitVec.ofNat 32 h.val)) 10#32)
      = BitVec.ofBool (decide (h.val ≤ l.val ∧ l.val < h.val + 10)) := by decide +kernel
  unfold k0_pay724 k0_pay723
  pointwise
  rw [hb, one_cast]
  by_cases hc : h.val ≤ l.val ∧ l.val < h.val + 10
  · rw [if_pos hc, decide_eq_true hc]; rfl
  · rw [if_neg hc, decide_eq_false hc]; rfl

/-- The mask of spans from the line before: one where the span of ten from there reaches the position. -/
theorem far_at (h l : Fin 128) : k0_pay725 (F := Ideal) (iota .tc S128x128 32 [0] iota_S128x128_d0_w32) (iota .tc S128x128 32 [1] iota_S128x128_d1_w32)
    (ix2 h l) = ((one (l.val + 128 < h.val + 10) : ℕ) : EReal) := by
  have hb : ∀ h l : Fin 128, IntOp.andi
      (IntOp.cmpi CmpIPredicate.sge (IntOp.subi (IntOp.addi (BitVec.ofNat 32 l.val) 128#32) (BitVec.ofNat 32 h.val)) 0#32)
      (IntOp.cmpi CmpIPredicate.slt (IntOp.subi (IntOp.addi (BitVec.ofNat 32 l.val) 128#32) (BitVec.ofNat 32 h.val)) 10#32)
      = BitVec.ofBool (decide (l.val + 128 < h.val + 10)) := by decide +kernel
  unfold k0_pay725
  pointwise
  rw [hb, one_cast]
  by_cases hc : l.val + 128 < h.val + 10
  · rw [if_pos hc, decide_eq_true hc]; rfl
  · rw [if_neg hc, decide_eq_false hc]; rfl

section
variable (b : Fin 4) (picked : FVec Ideal S4x64x128 .f32) (idx : IVec S4x64x128 32) (col : FVec Ideal S128x1 .f32)
  (e : Fin 8192 → Fin 8192) (P : Fin 8192 → Prop) [DecidablePred P]
  (hidx : ∀ p : Fin 8192, idx (place b p) = BitVec.ofNat 32 (e p).val)
  (hpicked : ∀ p : Fin 8192, picked (place b p) = if P p then 1 else 0)
  (hcol : ∀ l : Fin 128, col (ix2 l 0) = ((l.val : ℕ) : EReal))

include hidx hcol in
/-- The one-hot array of places within a line. -/
theorem lows_at (l : Fin 128) (p : Fin 8192) : lows b idx col (ix2 l p) = ((one ((e p).val % 128 = l.val) : ℕ) : EReal) := by
  unfold lows
  pointwise
  have hx : (IntOp.andi (BitVec.ofNat 32 (e p).val) 127#32).toNat = (e p).val % 128 := by
    have h1 : (BitVec.ofNat 32 (e p).val &&& 127#32).toNat = (e p).val % 2 ^ 32 &&& 127 := rfl
    rw [IntOp.andi, h1, Nat.mod_eq_of_lt (by omega)]
    exact Nat.and_two_pow_sub_one_eq_mod _ 7
  rw [rowOf_at, hidx, sitofp_small _ _ hx (by omega), hcol, one_cast]
  exact if_congr EReal.natCast_eq_iff rfl rfl

include hidx hpicked hcol in
/-- The one-hot array of lines, only the picked entries in it. -/
theorem highs_at (h : Fin 64) (p : Fin 8192) :
    highs b picked idx col (ix2 h p) = ((one ((e p).val / 128 = h.val ∧ P p) : ℕ) : EReal) := by
  unfold highs
  pointwise
  have hx : (IntOp.shrui ArithUnit.vector (BitVec.ofNat 32 (e p).val) 7#32).toNat = (e p).val / 128 := by
    have h1 : IntOp.shrui ArithUnit.vector (BitVec.ofNat 32 (e p).val) 7#32 = BitVec.ofNat 32 (e p).val >>> 7 := rfl
    rw [h1, BitVec.toNat_ushiftRight, BitVec.toNat_ofNat, Nat.mod_eq_of_lt (by omega), Nat.shiftRight_eq_div_pow]
  have hc : col (ix2 ⟨h.val, by omega⟩ 0) = ((h.val : ℕ) : EReal) := hcol ⟨h.val, by omega⟩
  rw [rowOf_at, rowOf_at, hidx, hpicked, sitofp_small _ _ hx (by omega), hc, one_cast]
  by_cases h1 : (e p).val / 128 = h.val
  · by_cases h2 : P p
    · have hn : (e p).val / 128 = h.val ∧ P p := ⟨h1, h2⟩
      rw [if_pos h2, if_pos hn, decide_eq_true (EReal.natCast_eq_iff.2 h1), decide_eq_true zero_lt_one]; rfl
    · have hn : ¬ ((e p).val / 128 = h.val ∧ P p) := fun q => h2 q.2
      rw [if_neg h2, if_neg hn, decide_eq_false (lt_irrefl _), decide_eq_true (EReal.natCast_eq_iff.2 h1)]; rfl
  · have hn : ¬ ((e p).val / 128 = h.val ∧ P p) := fun q => h1 q.1
    rw [if_neg hn, decide_eq_false (fun h => h1 (EReal.natCast_eq_iff.1 h))]
    by_cases h2 : P p
    · rw [if_pos h2, decide_eq_true zero_lt_one]; rfl
    · rw [if_neg h2, decide_eq_false (lt_irrefl _)]; rfl

/-- How many picked places hold the position `128 h + l`. -/
def startCount (h l : ℕ) : ℕ := ∑ p : Fin 8192, one ((e p).val / 128 = h ∧ P p) * one ((e p).val % 128 = l)

include hidx hpicked hcol in
/-- The product of the one-hot arrays counts the picked entries that start at each place. -/
theorem starts_at (h : Fin 64) (l : Fin 128) : starts b picked idx col (ix2 h l) = ((startCount e P h.val l.val : ℕ) : EReal) := by
  unfold starts
  pointwise
  exact sum_cast _ _ _ _ _ (fun p => highs_at b picked idx col e P hidx hpicked hcol h p) fun p => lows_at b idx col e hidx hcol l p

/-- The count is positive exactly when some picked entry starts there. -/
theorem startCount_pos (h l : ℕ) : 0 < startCount e P h l ↔ ∃ p, P p ∧ (e p).val / 128 = h ∧ (e p).val % 128 = l := by
  rw [startCount, Finset.sum_pos_iff]
  refine exists_congr fun p => ?_
  simp only [mul_pos_iff_of_nat, one_pos, Finset.mem_univ, true_and]
  tauto

include hidx hpicked hcol in
/-- The counts of the line before. -/
theorem startsBefore_at (h : Fin 64) (l : Fin 128) : startsBefore (starts b picked idx col) (ix2 h l)
    = ((one (0 < h.val) * startCount e P (h.val - 1) l.val : ℕ) : EReal) := by
  unfold startsBefore
  pointwise
  by_cases h0 : h.val < 1
  · rw [dif_pos h0, one, if_neg (by omega), Nat.zero_mul, Nat.cast_zero]
  · have h1 : one (0 < h.val) = 1 := if_pos (by omega)
    rw [dif_neg h0, h1, Nat.one_mul]
    exact starts_at b picked idx col e P hidx hpicked hcol ⟨h.val - 1, by omega⟩ l

include hidx hpicked hcol in
/-- A position is marked exactly when a picked place holds a position at most nine before it. -/
theorem marks_at (h : Fin 64) (j : Fin 128) :
    marks (k0_pay724 k0_pay723) (k0_pay725 (iota .tc S128x128 32 [0] iota_S128x128_d0_w32) (iota .tc S128x128 32 [1] iota_S128x128_d1_w32))
        (starts b picked idx col) (ix3 0 h j)
      = BitVec.setWidth 8 (BitVec.ofBool (decide (∃ p, P p ∧ (e p).val ≤ 128 * h.val + j.val ∧ 128 * h.val + j.val < (e p).val + 10))) := by
  unfold marks
  pointwise
  rw [sum_cast Finset.univ _ _ _ _ (fun l => starts_at b picked idx col e P hidx hpicked hcol h l) (fun l => near_at l j),
    sum_cast Finset.univ _ _ _ _ (fun l => startsBefore_at b picked idx col e P hidx hpicked hcol h l) (fun l => far_at l j), ← Nat.cast_add]
  refine congrArg (fun c => BitVec.setWidth 8 (BitVec.ofBool c)) (decide_eq_decide.2 ?_)
  rw [← Nat.cast_zero, EReal.natCast_lt_iff, Nat.add_pos_iff_pos_or_pos, Finset.sum_pos_iff, Finset.sum_pos_iff]
  simp only [mul_pos_iff_of_nat, Finset.mem_univ, true_and, one_pos, startCount_pos]
  constructor
  · rintro (⟨l, ⟨p, hp, h1, h2⟩, h3, h4⟩ | ⟨l, ⟨h0, p, hp, h1, h2⟩, h3⟩)
    · exact ⟨p, hp, by omega, by omega⟩
    · exact ⟨p, hp, by omega, by omega⟩
  · rintro ⟨p, hp, h1, h2⟩
    by_cases hb : (e p).val / 128 = h.val
    · exact Or.inl ⟨⟨(e p).val % 128, by omega⟩, ⟨p, hp, hb, rfl⟩, by simp only; omega, by simp only; omega⟩
    · exact Or.inr ⟨⟨(e p).val % 128, by omega⟩, ⟨by omega, p, hp, by omega, rfl⟩, by simp only; omega⟩

end

end Cert.Proof

end
-- ==== Proof.KernelValue.lean ====
/- The kernel's result: what the body leaves in its output block, and what the launch's lines make of it. -/
module

public import proofs.«01_k».proof.Proof.Threshold
public import proofs.«01_k».proof.Proof.Order
public import proofs.«01_k».proof.Proof.Rows
public import Idealize.ShloMosaic.Lib.Pipeline.ValueKit

@[expose] public section

noncomputable section

namespace Cert.Proof

open Idealize.ShloMosaic Idealize.ShloMosaic.TcCoe Cert.KernelIdeal Cert.KernelIdeal.Gen

/-- The positions as the kernel's sort leaves them. -/
noncomputable def ranked : Words := (stages.foldl (fun p ls => stageArrays ls p) (kernelRun0_A.sl.v685, flat)).2

/-- The kernel's sorted positions are what the stages leave of the plain positions. -/
theorem ranked_eq : k0_pay722 kernelRun0_A.sl.v4 kernelRun0_A.sl.r_20 kernelRun0_A.sl.r_21 kernelRun0_A.sl.r_22 kernelRun0_A.sl.r_23
    kernelRun0_A.sl.r_24 kernelRun0_A.sl.r_25 k0_pay721 = ranked := by sl_kernel_rfl

/-- The two masks of spans. -/
noncomputable abbrev nearMask : FVec Ideal S128x128 .f32 := k0_pay724 k0_pay723
/-- The mask of spans that begin in the line before. -/
noncomputable abbrev farMask : FVec Ideal S128x128 .f32 :=
  k0_pay725 (iota .tc S128x128 32 [0] iota_S128x128_d0_w32) (iota .tc S128x128 32 [1] iota_S128x128_d1_w32)

/-- A row's marks from the kernel's own arrays. -/
noncomputable def rowMarks (b : Fin 4) (col : FVec Ideal S128x1 .f32) : IVec S1x64x128 8 :=
  marks nearMask farMask (starts b (kernelRun0_A.sl.r_1 (F := Ideal)) (k0_pay722 kernelRun0_A.sl.v4 kernelRun0_A.sl.r_20 kernelRun0_A.sl.r_21
    kernelRun0_A.sl.r_22 kernelRun0_A.sl.r_23 kernelRun0_A.sl.r_24 kernelRun0_A.sl.r_25 k0_pay721) col)

/-- The column as the body reads it. -/
noncomputable abbrev columnRead (arg1 : Memref sig .tc .vmem S128x1 .f32) (harg1 : arg1.IsWhole) (x0 : Vec Ideal S128x1 .f32) : Vec Ideal S128x1 .f32 :=
  View.readAt (Elt Ideal) arg1.view (Rect.unit ![0, 0] S128x1.size inb_S128x1_S128x1_0_0).toLoadRect (harg1.unread x0)

/-- The body's four stores: a row's marks each. -/
theorem pieces_eq (c : Dev nD) (i : grid0.Coords) (arg1 : Memref sig .tc .vmem S128x1 .f32) (harg1 : arg1.IsWhole)
    (arg2 : Memref sig .tc .vmem S4x64x128 .i8) (harg2 : arg2.IsWhole) (x0 : Vec Ideal S128x1 .f32) :
    (kernelRun0_A (F := Ideal) c i arg1 harg1 arg2 harg2 x0).1 =
      ([⟨Rect.unit ![3, 0, 0] S1x64x128.size inb_S4x64x128_S1x64x128_3_0_0, rowMarks 3 (columnRead arg1 harg1 x0)⟩,
        ⟨Rect.unit ![2, 0, 0] S1x64x128.size inb_S4x64x128_S1x64x128_2_0_0, rowMarks 2 (columnRead arg1 harg1 x0)⟩,
        ⟨Rect.unit ![1, 0, 0] S1x64x128.size inb_S4x64x128_S1x64x128_1_0_0, rowMarks 1 (columnRead arg1 harg1 x0)⟩,
        ⟨Rect.unit ![0, 0, 0] S1x64x128.size inb_S4x64x128_S1x64x128_0_0_0, rowMarks 0 (columnRead arg1 harg1 x0)⟩] :
        List (View.Piece (Elt Ideal) S4x64x128 .i8)) := by sl_kernel_rfl

/-- Reading the column's whole block gives the block. -/
theorem columnRead_eq (arg1 : Memref sig .tc .vmem S128x1 .f32) (harg1 : arg1.IsWhole) (x0 : Vec Ideal S128x1 .f32) :
    columnRead arg1 harg1 x0 = x0 := by
  have hz : (![0, 0] : Fin 2 → Nat) = fun _ => 0 := funext fun a => by fin_cases a <;> rfl
  rw [columnRead, View.readAt_eq_ld, harg1.read_unread, View.ld_unit_zero hz]

/-- A row's positions as the kernel's sort leaves them: a rearrangement that begins with the row's order. -/
theorem ranked_place (b : Fin 4) : ∃ f, IsOrder b f ∧ ∃ σ : Equiv.Perm (Fin (2 ^ 13)),
    (∀ p : Fin 8183, (σ ⟨p.val, lt_trans p.isLt (by decide)⟩).val = (f p).val) ∧ ∀ i, ranked (place b i) = BitVec.ofNat 32 (σ i).val := by
  obtain ⟨σ, h1, h2⟩ := entries_sorted b (kernelRun0_A.sl.v685, flat)
  obtain ⟨f, hf, hσ⟩ := exists_order b (fun i => signedKey (entries b (kernelRun0_A.sl.v685, flat) i))
    (fun i => by
      have h : signedKey (entries b (kernelRun0_A.sl.v685, flat) i) = (kernelRun0_A.sl.v685 (place b i)).toInt := rfl
      rw [h, firstKeys_at, firstKeys_place]) σ h2
  refine ⟨f, hf, σ, hσ, fun i => ?_⟩
  have h := congrArg Prod.snd (congrFun h1 i)
  have h' : ranked (place b i) = flat (place b (σ i)) := h
  rw [h', flat_place]

open Classical in
/-- A row's marks are the masked positions. -/
theorem rowMarks_at (b : Fin 4) (col : FVec Ideal S128x1 .f32) (hcol : ∀ l : Fin 128, col (ix2 l 0) = ((l.val : ℕ) : EReal)) (h : Fin 64) (j : Fin 128) :
    rowMarks b col (ix3 0 h j) = BitVec.setWidth 8 (BitVec.ofBool (decide (Masked b (128 * h.val + j.val)))) := by
  obtain ⟨f, hf, σ, h1, h2⟩ := ranked_place b
  rw [rowMarks, ranked_eq, marks_at b _ ranked col σ (fun p => padWord b p ≤ (bound b).toNat) h2 (picked_place b) hcol]
  refine congrArg (fun c => BitVec.setWidth 8 (BitVec.ofBool c)) (decide_eq_decide.2 ?_)
  rw [masked_iff hf]
  constructor
  · rintro ⟨p, hp, h3, h4⟩
    have hlt : p.val < 8183 := by
      by_contra hn
      rw [padWord, if_neg hn] at hp
      have := (word2_boundAt b).2.2
      omega
    rw [padWord, if_pos hlt] at hp
    have := h1 ⟨p.val, hlt⟩
    exact ⟨⟨p.val, hlt⟩, hp, by rw [← this]; exact h3, by rw [← this]; exact h4⟩
  · rintro ⟨p, hp, h3, h4⟩
    refine ⟨⟨p.val, lt_trans p.isLt (by decide)⟩, ?_, by rw [h1]; exact h3, by rw [h1]; exact h4⟩
    rw [padWord, if_pos p.isLt]; exact hp

open Classical in
/-- What the body leaves in its output block, at a place of row `y 0`. -/
theorem out_at (c : Dev nD) (i : grid0.Coords) (arg1 : Memref sig .tc .vmem S128x1 .f32) (harg1 : arg1.IsWhole)
    (arg2 : Memref sig .tc .vmem S4x64x128 .i8) (harg2 : arg2.IsWhole) (x0 : Vec Ideal S128x1 .f32)
    (hcol : ∀ l : Fin 128, x0 (ix2 l 0) = ((l.val : ℕ) : EReal)) (y : S4x64x128.Idx) :
    out0_A_1 (F := Ideal) c i arg1 harg1 arg2 harg2 x0 y
      = BitVec.setWidth 8 (BitVec.ofBool (decide (Masked (y 0) (128 * (y 1).val + (y 2).val)))) := by
  have hone : ∀ (b : Fin 4) (inb : ∀ a, (![b.val, 0, 0] : Fin 3 → Nat) a + S1x64x128.size a ≤ S4x64x128.size a)
      (x : S1x64x128.Idx),
      rowMarks b x0 x = BitVec.setWidth 8 (BitVec.ofBool (decide (Masked ((Rect.unit (s := S4x64x128) ![b.val, 0, 0] S1x64x128.size inb).emb x 0)
        (128 * ((Rect.unit (s := S4x64x128) ![b.val, 0, 0] S1x64x128.size inb).emb x 1).val
          + ((Rect.unit (s := S4x64x128) ![b.val, 0, 0] S1x64x128.size inb).emb x 2).val)))) := fun b inb x => by
    have hx : x = ix3 0 (x 1) (x 2) := by
      refine (eq_ix3 (n0 := 1) (n1 := 64) (n2 := 128) x).trans ?_
      exact congrArg (fun z : Fin 1 => ix3 z (x 1) (x 2)) (Subsingleton.elim (α := Fin 1) _ _)
    have e0 : (Rect.unit (s := S4x64x128) ![b.val, 0, 0] S1x64x128.size inb).emb x 0 = b := Fin.ext (by
      have h0 : (x 0).val = 0 := Nat.lt_one_iff.1 (x 0).isLt
      refine (ValueKit.rect_emb_unit_val (s := S4x64x128) _ _ inb x 0).trans ?_
      rw [h0]; rfl)
    have e1 : ((Rect.unit (s := S4x64x128) ![b.val, 0, 0] S1x64x128.size inb).emb x 1).val = (x 1).val :=
      (ValueKit.rect_emb_unit_val (s := S4x64x128) _ _ inb x 1).trans (Nat.zero_add _)
    have e2 : ((Rect.unit (s := S4x64x128) ![b.val, 0, 0] S1x64x128.size inb).emb x 2).val = (x 2).val :=
      (ValueKit.rect_emb_unit_val (s := S4x64x128) _ _ inb x 2).trans (Nat.zero_add _)
    rw [e0, e1, e2]
    exact (congrArg (rowMarks b x0) hx).trans (rowMarks_at b x0 hcol (x 1) (x 2))
  unfold out0_A_1
  refine View.read_writes_apply_of_pieces _ _
    (fun y : S4x64x128.Idx => BitVec.setWidth 8 (BitVec.ofBool (decide (Masked (y 0) (128 * (y 1).val + (y 2).val))))) _ ?_ y
    (cover0_A_1 c i arg1 harg1 arg2 harg2 x0 y)
  rw [pieces_eq, columnRead_eq]
  intro p hp
  simp only [List.mem_cons, List.not_mem_nil, or_false] at hp
  rcases hp with rfl | rfl | rfl | rfl
  · exact hone 3 inb_S4x64x128_S1x64x128_3_0_0
  · exact hone 2 inb_S4x64x128_S1x64x128_2_0_0
  · exact hone 1 inb_S4x64x128_S1x64x128_1_0_0
  · exact hone 0 inb_S4x64x128_S1x64x128_0_0_0

section
variable (m : (ℓ : Loc nD τ sig) → Buf (Elt Ideal) ℓ)

/-- The column of numbers as the launch finds it. -/
theorem column_entry (c : Dev nD) : V m c main_v1 = shapeCast S128x1 (sitofp (F := Ideal) .f32 (iotaInDim S128 32 0)) shapeCasts_S128_S128x1 := by
  sl_kernel_rfl

/-- The column of numbers. -/
theorem column_at (c : Dev nD) (t : Fin cfg0.N) (l : Fin 128) : iblk m c 0 t (ix2 l 0) = ((l.val : ℕ) : EReal) := by
  have e : win0_0.index t = ![0, 0] := (by decide +kernel : ∀ t : Fin grid0.N, win0_0.index t = ![0, 0]) t
  have hp : (win0_0.blk t).view.emb (ix2 l 0) = ix2 l 0 := by blk_ext [e]
  blk_simp [iblk]
  rw [hp, column_entry]
  pointwise
  exact sitofp_small _ _ (by rw [BitVec.toNat_ofNat, Nat.mod_eq_of_lt (by omega)]) (by omega)

open Classical in
/-- The array the launch writes. -/
theorem final_marks (c : Dev nD) : (dats m 0 c).arrAt 1 cfg0.N
    = fun y : S4x64x128.Idx => BitVec.setWidth 8 (BitVec.ofBool (decide (Masked (y 0) (128 * (y 1).val + (y 2).val)))) := by
  refine (dats m 0 c).arrAt_eq_of_covers 1 _ (by decide +kernel) fun t hf y => ?_
  have e : win0_1.index t = ![0, 0, 0] := (by decide +kernel : ∀ t : Fin grid0.N, win0_1.index t = ![0, 0, 0]) t
  have hp : (win0_1.blk t).view.emb y = y := by blk_ext [e]
  rw [after0_1, outsAt0]
  refine (out_at _ _ _ _ _ _ _ (column_at m c t) y).trans ?_
  refine Eq.trans ?_ (congrArg (fun y : S4x64x128.Idx => BitVec.setWidth 8 (BitVec.ofBool (decide (Masked (y 0) (128 * (y 1).val + (y 2).val))))) hp.symm)
  rfl

/-- The lines after the launch, from any contents. -/
theorem tail_after (W : Valuation τ sig (Elt Ideal)) : StableHlo.after (List.flatten [hostOps1]) W (Proc.devRef .tc main_v6)
    = cmpi .ne (shapeCast S4x8192 (W (Proc.devRef .tc main_v2) : Vec Ideal S4x64x128 .i8) shapeCasts_S4x64x128_S4x8192)
      (broadcastInDim S4x8192 ![] bcast_S_S4x8192 (constantI S_ 8 0#8)) := by
  sl_kernel_rfl

open Classical in
/-- The program's result: which positions are masked. -/
def answer : S4x8192.Idx → BitVec 1 := fun j => BitVec.ofBool (decide (Masked (j 0) (j 1).val))

/-- The output's blocks of 128 laid end to end. -/
theorem blocks_row (x : S4x64x128.Idx → BitVec 8) (j : S4x8192.Idx) : shapeCast S4x8192 x shapeCasts_S4x64x128_S4x8192 j
    = x (ix3 (j 0) ⟨(j 1).val / 128, Nat.div_lt_of_lt_mul (j 1).isLt⟩ ⟨(j 1).val % 128, Nat.mod_lt _ (by decide)⟩) := by
  pointwise

open Classical in
/-- What the lines after the launch make of the array it writes. -/
theorem tail_eq (c : Dev nD) : Pipeline.afterTail₀ cfgs (dats m) 0 (V0 m) [hostOps1] c main_v6 = answer := by
  have hv : Pipeline.withArrays (cfgs 0).spec c (V0 m c) (fun w => (dats m 0 c).arrAt w (cfgs 0).N) (Proc.devRef .tc main_v2)
      = (dats m 0 c).arrAt 1 cfg0.N :=
    Pipeline.withArrays_arr (cfgs 0).spec (by decide) c (V0 m c) _ 1
  unfold Pipeline.afterTail₀
  rw [tail_after, hv, final_marks]
  funext j
  have hb : ∀ c : Bool, IntOp.cmpi CmpIPredicate.ne (BitVec.setWidth 8 (BitVec.ofBool c)) 0#8 = BitVec.ofBool c := by decide
  refine (congrArg (fun w => IntOp.cmpi CmpIPredicate.ne w 0#8) (blocks_row _ j)).trans ?_
  refine (hb _).trans ?_
  have ht : 128 * ((j 1).val / 128) + (j 1).val % 128 = (j 1).val := Nat.div_add_mod _ _
  exact congrArg (fun t => BitVec.ofBool (decide (Masked (j 0) t))) ht

/-- The kernel's run ends with the answer, its argument unchanged. -/
theorem kernel_run (ρ : Dev nD → PrngReg) : θ_run (defs (F := Ideal)) (onTc (τ := τ) (main (F := Ideal))) ⟨m, fun _ => 0, ρ⟩ (fun r => ∀ c : Dev nD,
      r.2.mem ((c.tc : Thread nD τ).loc main_v6) = answer
      ∧ r.2.mem ((c.tc : Thread nD τ).loc main_arg0) = m ((c.tc : Thread nD τ).loc main_arg0)) :=
  (θ_run defs _ _).mono (fun _ h c => ⟨((h c).2 main_v6 (Pipeline.mem_restRefs_of main_v6 (by decide) (by decide))).trans (tail_eq m c),
    ((h c).2 main_arg0 (Pipeline.mem_restRefs_of main_arg0 (by decide) (by decide))).trans (W_main_arg0 m (dats m) c)⟩) (run_main m ρ)
end

end Cert.Proof

end
-- ==== Proof.RefWords.lean ====
/- The reference's random words: the keys of the rows, the keys split off them, the words of the two rounds at every position. -/
module

public import proofs.«01_k».proof.Proof.Gen.ReferenceIdeal.Run
public import proofs.«01_k».proof.Proof.Cipher
public import Idealize.ShloMosaic.Lib.Pipeline.ValueKit
public import Idealize.ShloMosaic.Lib.Pointwise

@[expose] public section

noncomputable section

namespace Cert.Proof

open Idealize.ShloMosaic Idealize.ShloMosaic.TcCoe Cert.ReferenceIdeal Cert.ReferenceIdeal.Gen Cert.ReferenceIdeal.Value

/-- The first round sorts the positions themselves. -/
theorem v182_at (V : Valuation τ sig (Elt Ideal)) (j : S4x8183.Idx) : res_main_v182 V j = BitVec.ofNat 32 (j 1).val := by sl_kernel_rfl

/-- The rows' keys. -/
theorem v183_at (V : Valuation τ sig (Elt Ideal)) (j : S4x1.Idx) : (res_main_v183 V j, res_main_v184 V j) = rowKey (BitVec.ofNat 32 (j 0).val) := by
  sl_kernel_rfl

/-- The two keys split off a row's key. -/
theorem v360_at (V : Valuation τ sig (Elt Ideal)) (j : S4x2.Idx) : (res_main_v360 V j, res_main_v364 V j) =
    child (broadcastInDim S4x2 ![0, 1] bcast_S4x1_S4x2_0_1 (res_main_v183 V) j, broadcastInDim S4x2 ![0, 1] bcast_S4x1_S4x2_0_1 (res_main_v184 V) j)
      (BitVec.ofNat 32 (j 1).val) := by
  sl_kernel_rfl

/-- The first round's words under the second key split off. -/
theorem v555_at (V : Valuation τ sig (Elt Ideal)) (j : S4x8183.Idx) : res_main_v555 V j =
    bitsOf (broadcastInDim S4x8183 ![0, 1] bcast_S4x1_S4x8183_0_1 (res_main_v373 V) j, broadcastInDim S4x8183 ![0, 1] bcast_S4x1_S4x8183_0_1 (res_main_v374 V) j)
      (BitVec.ofNat 32 (j 1).val) := by
  sl_kernel_rfl

/-- The two keys split off the key carried into the second round. -/
theorem v734_at (V : Valuation τ sig (Elt Ideal)) (j : S4x2.Idx) : (res_main_v734 V j, res_main_v738 V j) =
    child (broadcastInDim S4x2 ![0, 1] bcast_S4x1_S4x2_0_1 (res_main_v557 V) j, broadcastInDim S4x2 ![0, 1] bcast_S4x1_S4x2_0_1 (res_main_v558 V) j)
      (BitVec.ofNat 32 (j 1).val) := by
  sl_kernel_rfl

/-- The second round's words. -/
theorem v929_at (V : Valuation τ sig (Elt Ideal)) (j : S4x8183.Idx) : res_main_v929 V j =
    bitsOf (broadcastInDim S4x8183 ![0, 1] bcast_S4x1_S4x8183_0_1 (res_main_v747 V) j, broadcastInDim S4x8183 ![0, 1] bcast_S4x1_S4x8183_0_1 (res_main_v748 V) j)
      (BitVec.ofNat 32 (j 1).val) := by
  sl_kernel_rfl

/-- A column of a four-by-two array, cut out. -/
theorem column1_at (x : IVec S4x2 32) (b : Fin 4) :
    (broadcastInDim S4x1 ![0] bcast_S4_S4x1_0 (shapeCast S4 (extractStridedSlice S4x1 ![0, 1] x slices_S4x2_S4x1_0_1) shapeCasts_S4x1_S4)) (ix2 b (0 : Fin 1)) =
      x (ix2 b (1 : Fin 2)) := by
  pointwise

/-- The other column, cut out. -/
theorem column0_at (x : IVec S4x2 32) (b : Fin 4) :
    (broadcastInDim S4x1 ![0] bcast_S4_S4x1_0 (shapeCast S4 (extractStridedSlice S4x1 ![0, 0] x slices_S4x2_S4x1_0_0) shapeCasts_S4x1_S4)) (ix2 b (0 : Fin 1)) =
      x (ix2 b (0 : Fin 2)) := by
  pointwise

/-- A column spread over two columns. -/
theorem spread2_at (x : IVec S4x1 32) (b : Fin 4) (c : Fin 2) : broadcastInDim S4x2 ![0, 1] bcast_S4x1_S4x2_0_1 x (ix2 b c) = x (ix2 b (0 : Fin 1)) := by
  pointwise

/-- A column spread over the positions. -/
theorem spread_at (x : IVec S4x1 32) (b : Fin 4) (p : Fin 8183) :
    broadcastInDim S4x8183 ![0, 1] bcast_S4x1_S4x8183_0_1 x (ix2 b p) = x (ix2 b (0 : Fin 1)) := by
  pointwise

end Cert.Proof

end
-- ==== Proof.RefSort.lean ====
/- The reference's two sorts: the random words of the two rounds as numbers, and where the rows' first fifty-four starts come from. -/
module

public import proofs.«01_k».proof.Proof.RefWords
public import proofs.«01_k».proof.Proof.Order
public import Idealize.ShloMosaic.Lib.SortFacts

@[expose] public section

noncomputable section

namespace Cert.Proof

open Idealize.ShloMosaic Idealize.ShloMosaic.TcCoe Cert.ReferenceIdeal Cert.ReferenceIdeal.Gen Cert.ReferenceIdeal.Value

/-- The two keys split off row `b`'s key. -/
theorem split1_at (V : Valuation τ sig (Elt Ideal)) (b : Fin 4) (c : Fin 2) :
    (res_main_v360 V (ix2 b c), res_main_v364 V (ix2 b c)) = child (rowKey (BitVec.ofNat 32 b.val)) (BitVec.ofNat 32 c.val) := by
  have h := v360_at V (ix2 b c)
  rw [spread2_at, spread2_at, v183_at V (ix2 b (0 : Fin 1))] at h
  exact h

/-- The two keys split off the key that row `b` carries into the second round. -/
theorem split2_at (V : Valuation τ sig (Elt Ideal)) (b : Fin 4) (c : Fin 2) :
    (res_main_v734 V (ix2 b c), res_main_v738 V (ix2 b c)) = child (child (rowKey (BitVec.ofNat 32 b.val)) 0#32) (BitVec.ofNat 32 c.val) := by
  have h := v734_at V (ix2 b c)
  have k : (res_main_v557 V (ix2 b (0 : Fin 1)), res_main_v558 V (ix2 b (0 : Fin 1))) = child (rowKey (BitVec.ofNat 32 b.val)) 0#32 :=
    (congrArg₂ Prod.mk (column0_at _ b) (column0_at _ b)).trans (split1_at V b 0)
  rw [spread2_at, spread2_at, k] at h
  exact h

/-- The first round's words, as numbers. -/
theorem v555_toNat (V : Valuation τ sig (Elt Ideal)) (b : Fin 4) (p : Fin 8183) : (res_main_v555 V (ix2 b p)).toNat = word1 b p.val := by
  have h := v555_at V (ix2 b p)
  have k : (res_main_v373 V (ix2 b (0 : Fin 1)), res_main_v374 V (ix2 b (0 : Fin 1))) = child (rowKey (BitVec.ofNat 32 b.val)) 1#32 :=
    (congrArg₂ Prod.mk (column1_at _ b) (column1_at _ b)).trans (split1_at V b 1)
  rw [spread_at, spread_at, k] at h
  rw [h]
  rfl

/-- The second round's words, as numbers. -/
theorem v929_toNat (V : Valuation τ sig (Elt Ideal)) (b : Fin 4) (p : Fin 8183) : (res_main_v929 V (ix2 b p)).toNat = word2 b p.val := by
  have h := v929_at V (ix2 b p)
  have k : (res_main_v747 V (ix2 b (0 : Fin 1)), res_main_v748 V (ix2 b (0 : Fin 1))) = child (child (rowKey (BitVec.ofNat 32 b.val)) 0#32) 1#32 :=
    (congrArg₂ Prod.mk (column1_at _ b) (column1_at _ b)).trans (split2_at V b 1)
  rw [spread_at, spread_at, k] at h
  rw [h]
  rfl

/-- Where a stable sort by the numbers `K` takes its entries from. -/
def byKey {n : Nat} (K : Fin n → Nat) : Fin n → Fin n := sortedFrom fun k k' => decide (K k < K k')

/-- A sort takes no entry twice. -/
theorem byKey_injective {n : Nat} (K : Fin n → Nat) : Function.Injective (byKey K) := sortedFrom_injective _

/-- A sort takes every entry. -/
theorem byKey_surjective {n : Nat} (K : Fin n → Nat) : Function.Surjective (byKey K) := sortedFrom_surjective _

/-- Along a sort the numbers do not descend. -/
theorem byKey_monotone {n : Nat} (K : Fin n → Nat) : Monotone fun r => K (byKey K r) := by
  refine monotone_iff_forall_lt.2 fun i j hij => ?_
  have := sortedFrom_noInversion (fun k k' => decide (K k < K k')) (fun k k' => decide (K k < K k'))
    (fun a b h => by have := of_decide_eq_true h; exact decide_eq_false (by omega)) (fun _ _ h => h)
    (fun a b c h1 h2 => by have := of_decide_eq_false h1; have := of_decide_eq_false h2; exact decide_eq_false (by omega)) i j hij
  exact not_lt.1 (of_decide_eq_false this)

/-- A sort of a row by its first operand's words, read at the second operand. -/
theorem sort2_at (x y : IVec S4x8183 32) (b : Fin 4) (K : Fin 8183 → Nat) (hK : ∀ p, (x (ix2 b p)).toNat = K p) (p : Fin 8183) :
    (Host.sort2 S4x8183 1 comparator_i32_i32_d1 x y).2 (ix2 b p) = y (ix2 b (byKey K p)) := by
  have ha : ∀ k : Fin 8183, Shape.Idx.along (s := S4x8183) (ix2 b p) ⟨1, Nat.one_lt_two⟩ k = ix2 b k := fun k => by
    funext a; fin_cases a <;> rfl
  have hb : (fun k k' : Fin 8183 => comparator_i32_i32_d1 (x (ix2 b k), y (ix2 b k)) (x (ix2 b k'), y (ix2 b k')) == 1#1) =
      fun k k' => decide (K k < K k') := by
    funext k k'
    rw [← hK, ← hK]
    simp only [comparator_i32_i32_d1, IntOp.cmpi, BitVec.ult]
    by_cases h : (x (ix2 b k)).toNat < (x (ix2 b k')).toNat <;> simp [h]
  unfold byKey
  rw [← hb]
  unfold Host.sort2
  rw [dif_pos (show 1 < S4x8183.rank from Nat.one_lt_two)]
  refine (congrArg y (ha _)).trans (congrArg (fun q => y (ix2 b (sortedFrom q p))) (funext₂ fun k k' => ?_))
  rw [ha k, ha k']

/-- The first round's order of row `b`. -/
def order1 (b : Fin 4) : Fin 8183 → Fin 8183 := byKey fun p => word1 b p.val

/-- The second round's order of row `b`. -/
def order2 (b : Fin 4) : Fin 8183 → Fin 8183 := byKey fun p => word2 b p.val

/-- The first round's order is an order of the row in the sense of `IsOrder`. -/
theorem order1_isOrder (b : Fin 4) : IsOrder b (order1 b) := by
  refine (byKey_monotone fun p : Fin 8183 => word1 b p.val).strictMono_of_injective fun p q h => ?_
  exact byKey_injective _ (Fin.ext (word1_inj b (Fin.isLt _) (Fin.isLt _) h))

/-- The second round puts the entries whose words are at most the bound into the first fifty-four places. -/
theorem order2_le_iff (b : Fin 4) (r : Fin 8183) : word2 b (order2 b r).val ≤ (bound b).toNat ↔ r.val < 54 := by
  have hm : Monotone fun r => word2 b (order2 b r).val := byKey_monotone fun p : Fin 8183 => word2 b p.val
  have hi : Function.Injective (order2 b) := byKey_injective _
  have hs : Function.Surjective (order2 b) := byKey_surjective _
  have hc : (Finset.univ.filter fun r => word2 b (order2 b r).val ≤ (bound b).toNat).card = 54 := by
    rw [← word2_count b]
    refine Finset.card_bij (fun r _ => (order2 b r).val) (fun r hr => ?_) (fun r _ q _ h => hi (Fin.ext h)) fun p hp => ?_
    · exact Finset.mem_filter.2 ⟨Finset.mem_range.2 (Fin.isLt _), (Finset.mem_filter.1 hr).2⟩
    · obtain ⟨h1, h2⟩ := Finset.mem_filter.1 hp
      obtain ⟨r, hr⟩ := hs ⟨p, Finset.mem_range.1 h1⟩
      have hv : (order2 b r).val = p := congrArg Fin.val hr
      exact ⟨r, Finset.mem_filter.2 ⟨Finset.mem_univ _, by rw [hv]; exact h2⟩, hv⟩
  constructor
  · intro h
    have hsub : Finset.Iic r ⊆ Finset.univ.filter fun r => word2 b (order2 b r).val ≤ (bound b).toNat := fun q hq =>
      Finset.mem_filter.2 ⟨Finset.mem_univ _, le_trans (hm (Finset.mem_Iic.1 hq)) h⟩
    have := Finset.card_le_card hsub
    rw [hc, Fin.card_Iic] at this
    omega
  · intro h
    by_contra hn
    have hsub : (Finset.univ.filter fun r => word2 b (order2 b r).val ≤ (bound b).toNat) ⊆ Finset.Iio r := fun q hq => by
      refine Finset.mem_Iio.2 (lt_of_not_ge fun hc => hn (le_trans (hm hc) (Finset.mem_filter.1 hq).2))
    have := Finset.card_le_card hsub
    rw [hc, Fin.card_Iio] at this
    omega

/-- The reference's starts: the place that the first round gives to the entry that the second round takes. -/
theorem start_at (V : Valuation τ sig (Elt Ideal)) (b : Fin 4) (r : Fin 8183) :
    (Host.sort2 S4x8183 1 comparator_i32_i32_d1 (res_main_v929 V) (res_main_v556_1 V)).2 (ix2 b r) =
      BitVec.ofNat 32 (order1 b (order2 b r)).val := by
  rw [sort2_at _ _ b _ (v929_toNat V b) r]
  have h := sort2_at (res_main_v555 V) (res_main_v182 V) b _ (v555_toNat V b) (order2 b r)
  exact h.trans (v182_at V _)

end Cert.Proof

end
-- ==== Proof.RefValue.lean ====
/- The reference's result: the spans it marks by its scatter. -/
module

public import proofs.«01_k».proof.Proof.RefSort
public import Idealize.ShloMosaic.Lib.Routing.OpsOrder

@[expose] public section

noncomputable section

namespace Cert.Proof

open Idealize.ShloMosaic Idealize.ShloMosaic.TcCoe Cert.ReferenceIdeal Cert.ReferenceIdeal.Gen Cert.ReferenceIdeal.Value

/-- The number, in row-major order, of offset `o` of span `r` of row `b`. -/
def spanAt (b : Fin 4) (r : Fin 54) (o : Fin 10) : Fin 2160 := ⟨(b.val * 54 + r.val) * 10 + o.val, by omega⟩

/-- Every number is that of some offset of some span of some row. -/
theorem spanAt_surjective (n : Fin 2160) : ∃ b r o, spanAt b r o = n :=
  ⟨⟨n.val / 540, by omega⟩, ⟨n.val % 540 / 10, by omega⟩, ⟨n.val % 10, by omega⟩, Fin.ext (by simp only [spanAt]; omega)⟩

/-- The rows, spans and offsets laid end to end. -/
theorem flatten_at {α : Type} (x : S4x54x10.Idx → α) (b : Fin 4) (r : Fin 54) (o : Fin 10) :
    shapeCast S2160 x shapeCasts_S4x54x10_S2160 (ix1 (spanAt b r o)) = x (ix3 b r o) := by
  refine shapeCast_apply x shapeCasts_S4x54x10_S2160 (ix1 (spanAt b r o)) (ix3 b r o) ?_
  rw [Shape.rowMajor_val_three, Shape.rowMajor_val_one]
  rfl

/-- The rows' positions laid end to end. -/
theorem unflatten_at {α : Type} (x : S32768.Idx → α) (b : Fin 4) (t : Fin 8192) :
    shapeCast S4x8192 x shapeCasts_S32768_S4x8192 (ix2 b t) = x (ix1 (⟨b.val * 8192 + t.val, by omega⟩ : Fin 32768)) := by
  refine shapeCast_apply x shapeCasts_S32768_S4x8192 (ix2 b t) (ix1 (⟨b.val * 8192 + t.val, by omega⟩ : Fin 32768)) ?_
  rw [Shape.rowMajor_val_two, Shape.rowMajor_val_one]
  rfl

/-- The sums of starts, offsets and rows, for any starts. -/
theorem sums_at (x : IVec S4x8183 32) (b : Fin 4) (r : Fin 54) (o : Fin 10) :
    (addi (addi (broadcastInDim S4x54x10 ![0, 1, 2] bcast_S4x54x1_S4x54x10_0_1_2 (broadcastInDim S4x54x1 ![0, 1] bcast_S4x54_S4x54x1_0_1
        (extractStridedSlice S4x54 ![0, 0] x slices_S4x8183_S4x54_0_0)))
      (broadcastInDim S4x54x10 ![0, 1, 2] bcast_S1x1x10_S4x54x10_0_1_2 (broadcastInDim S1x1x10 ![2] bcast_S10_S1x1x10_2 (iotaInDim S10 32 0))))
      (broadcastInDim S4x54x10 ![0, 1, 2] bcast_S4x1x1_S4x54x10_0_1_2 (muli (broadcastInDim S4x1x1 ![0] bcast_S4_S4x1x1_0 (iotaInDim S4 32 0))
        (broadcastInDim S4x1x1 ![] bcast_S_S4x1x1 (constantI S_ 32 8192#32)))) : IVec S4x54x10 32) (ix3 b r o) =
      x (ix2 b (⟨r.val, by omega⟩ : Fin 8183)) + BitVec.ofNat 32 o.val + BitVec.ofNat 32 b.val * 8192#32 := by
  pointwise
  rfl

/-- The place that the scatter's update of row `b`, span `r`, offset `o` goes to. -/
def goal (b : Fin 4) (r : Fin 54) (o : Fin 10) : Nat := b.val * 8192 + (order1 b (order2 b ⟨r.val, by omega⟩)).val + o.val

/-- The sum of a start, an offset and a row's beginning, as words. -/
theorem goal_word (f o b : Nat) : BitVec.ofNat 32 f + BitVec.ofNat 32 o + BitVec.ofNat 32 b * 8192#32 = BitVec.ofNat 32 (b * 8192 + f + o) := by
  rw [show b * 8192 + f + o = f + o + b * 8192 by omega, BitVec.ofNat_add, BitVec.ofNat_add, BitVec.ofNat_mul]

/-- The reference's index for row `b`, span `r`, offset `o` is the place it goes to. -/
theorem v944_at (V : Valuation τ sig (Elt Ideal)) (b : Fin 4) (r : Fin 54) (o : Fin 10) :
    res_main_v944 V (ix1 (spanAt b r o)) = BitVec.ofNat 32 (goal b r o) := by
  unfold res_main_v944
  refine (flatten_at _ b r o).trans ((sums_at _ b r o).trans ?_)
  rw [start_at, goal_word]
  rfl

/-- The places lie inside the mask. -/
theorem goal_lt (b : Fin 4) (r : Fin 54) (o : Fin 10) : goal b r o < 32768 := by
  have := (order1 b (order2 b ⟨r.val, by omega⟩)).isLt
  simp only [goal]
  omega

/-- A place that is not negative is kept. -/
theorem select_place (x : IVec S2160 32) (n : Fin 2160) (k : Nat) (hx : x (ix1 n) = BitVec.ofNat 32 k) (hk : k < 32768) :
    (broadcastInDim S2160x1 ![0] bcast_S2160_S2160x1_0 (select (cmpi .slt x (broadcastInDim S2160 ![] bcast_S_S2160 (constantI S_ 32 0#32)))
      (addi x (broadcastInDim S2160 ![] bcast_S_S2160 (constantI S_ 32 32768#32))) x) : IVec S2160x1 32) (ix2 n (0 : Fin 1)) = BitVec.ofNat 32 k := by
  have h : (BitVec.ofNat 32 k).slt 0#32 = false := by
    simp only [BitVec.slt, BitVec.toInt_eq_toNat_cond, BitVec.toNat_ofNat]
    exact decide_eq_false (by omega)
  have e : (broadcastInDim S2160x1 ![0] bcast_S2160_S2160x1_0 (select (cmpi .slt x (broadcastInDim S2160 ![] bcast_S_S2160 (constantI S_ 32 0#32)))
      (addi x (broadcastInDim S2160 ![] bcast_S_S2160 (constantI S_ 32 32768#32))) x) : IVec S2160x1 32) (ix2 n (0 : Fin 1)) =
      if IntOp.cmpi .slt (x (ix1 n)) 0#32 = 1#1 then x (ix1 n) + 32768#32 else x (ix1 n) := by
    pointwise
    rfl
  rw [e, hx]
  simp only [IntOp.cmpi, h]
  rfl

/-- An update goes to the place that its index names. -/
theorem lands_iff (idx : IVec S2160x1 32) (n : Fin 2160) (e : Fin 32768) :
    scatter_S32768_S2160x1_S2160_n_0_0_1.resultIdx? (ix1 n) idx = some (ix1 e) ↔ (idx (ix2 n (0 : Fin 1))).toInt = e.val := by
  refine (Routing.resultIdx?_ix1 scatter_S32768_S2160x1_S2160_n_0_0_1 (ix1 n) idx e).trans ?_
  have h1 : scatter_S32768_S2160x1_S2160_n_0_0_1.window (ix1 n) 0 = 0 := rfl
  have h2 : scatter_S32768_S2160x1_S2160_n_0_0_1.start (ix1 n) idx 0 = (idx (ix2 n (0 : Fin 1))).toInt := by
    refine congrArg (fun i => (idx i).toInt) (funext fun a => ?_)
    fin_cases a <;> rfl
  rw [h1, h2]
  simp

/-- Marks written over a list: the entry is marked exactly when one of them goes there. -/
theorem foldl_mark {ι : Type} (L : List ι) (P : ι → Prop) [DecidablePred P] (a : BitVec 1) :
    L.foldl (fun a n => if P n then 1#1 else a) a = if ∃ n ∈ L, P n then 1#1 else a := by
  induction L generalizing a with
  | nil => simp
  | cons x L ih =>
    rw [List.foldl_cons, ih]
    by_cases hx : P x <;> by_cases hL : ∃ n ∈ L, P n <;> simp [hx, hL]

/-- Every update of a scatter of ones into zeros leaves a one where it goes, and nothing else does. -/
theorem scatter_ones (idx : IVec S2160x1 32) (e : Fin 32768) : (Host.scatter scatter_S32768_S2160x1_S2160_n_0_0_1 (fun _ b => b)
      (broadcastInDim S32768 ![] bcast_S_S32768 (constantI S_ 1 0#1)) idx (broadcastInDim S2160 ![] bcast_S_S2160 (constantI S_ 1 1#1)) : IVec S32768 1)
      (ix1 e) = 1#1 ↔ ∃ n : Fin 2160, (idx (ix2 n (0 : Fin 1))).toInt = e.val := by
  rw [← Routing.scatterIn_finRange, Routing.scatterIn_at]
  have h := foldl_mark (List.finRange S2160.numel)
    (fun n => scatter_S32768_S2160x1_S2160_n_0_0_1.resultIdx? (S2160.rowMajor.symm n) idx = some (ix1 e)) 0#1
  refine (Iff.of_eq (congrArg (· = 1#1) h)).trans ?_
  have hn : (∃ n ∈ List.finRange S2160.numel, scatter_S32768_S2160x1_S2160_n_0_0_1.resultIdx? (S2160.rowMajor.symm n) idx = some (ix1 e)) ↔
      ∃ n : Fin 2160, (idx (ix2 n (0 : Fin 1))).toInt = e.val := by
    constructor
    · rintro ⟨n, -, hn⟩
      have hi : S2160.rowMajor.symm n = ix1 ((S2160.rowMajor.symm n) 0) := by funext a; fin_cases a; rfl
      rw [hi] at hn
      exact ⟨_, (lands_iff idx _ e).1 hn⟩
    · rintro ⟨n, hn⟩
      refine ⟨S2160.rowMajor (ix1 n), List.mem_finRange _, ?_⟩
      rw [Equiv.symm_apply_apply]
      exact (lands_iff idx n e).2 hn
  rw [← hn]
  by_cases hc : ∃ n ∈ List.finRange S2160.numel, scatter_S32768_S2160x1_S2160_n_0_0_1.resultIdx? (S2160.rowMajor.symm n) idx = some (ix1 e)
  · exact ⟨fun _ => hc, fun _ => if_pos hc⟩
  · refine ⟨fun h => absurd h ?_, fun h => absurd h hc⟩
    rw [if_neg hc]
    decide

/-- Some update of the reference goes to position `t` of row `b` exactly when the position is masked. -/
theorem goal_iff (b : Fin 4) (t : Fin 8192) : (∃ b' r o, goal b' r o = b.val * 8192 + t.val) ↔ Masked b t.val := by
  rw [masked_iff (order1_isOrder b)]
  constructor
  · rintro ⟨b', r, o, h⟩
    have := (order1 b' (order2 b' ⟨r.val, by omega⟩)).isLt
    simp only [goal] at h
    obtain rfl : b' = b := Fin.ext (by omega)
    exact ⟨order2 b' ⟨r.val, by omega⟩, (order2_le_iff b' _).2 r.isLt, by omega, by omega⟩
  · rintro ⟨p, h1, h2, h3⟩
    obtain ⟨r, hrp⟩ : ∃ r, order2 b r = p := byKey_surjective _ p
    subst hrp
    have hr : r.val < 54 := (order2_le_iff b r).1 h1
    refine ⟨b, ⟨r.val, hr⟩, ⟨t.val - (order1 b (order2 b r)).val, ?_⟩, ?_⟩
    · omega
    · change b.val * 8192 + (order1 b (order2 b r)).val + (t.val - (order1 b (order2 b r)).val) = _
      omega

open Classical in
/-- The reference's result marks the masked positions. -/
theorem reference_value (V : Valuation τ sig (Elt Ideal)) (j : S4x8192.Idx) :
    shapeCast S4x8192 (Host.scatter scatter_S32768_S2160x1_S2160_n_0_0_1 (fun _ b => b) (broadcastInDim S32768 ![] bcast_S_S32768 (constantI S_ 1 0#1))
      (broadcastInDim S2160x1 ![0] bcast_S2160_S2160x1_0 (select (cmpi .slt (res_main_v944 V) (broadcastInDim S2160 ![] bcast_S_S2160 (constantI S_ 32 0#32)))
        (addi (res_main_v944 V) (broadcastInDim S2160 ![] bcast_S_S2160 (constantI S_ 32 32768#32))) (res_main_v944 V)))
      (broadcastInDim S2160 ![] bcast_S_S2160 (constantI S_ 1 1#1))) shapeCasts_S32768_S4x8192 j = BitVec.ofBool (decide (Masked (j 0) (j 1).val)) := by
  obtain ⟨b, t, rfl⟩ : ∃ (b : Fin 4) (t : Fin 8192), j = ix2 b t := ⟨j 0, j 1, by funext a; fin_cases a <;> rfl⟩
  rw [unflatten_at]
  have hm := scatter_ones (broadcastInDim S2160x1 ![0] bcast_S2160_S2160x1_0 (select (cmpi .slt (res_main_v944 V) (broadcastInDim S2160 ![] bcast_S_S2160
    (constantI S_ 32 0#32))) (addi (res_main_v944 V) (broadcastInDim S2160 ![] bcast_S_S2160 (constantI S_ 32 32768#32))) (res_main_v944 V)))
    ⟨b.val * 8192 + t.val, by omega⟩
  have hp : ∀ b' r o, ((broadcastInDim S2160x1 ![0] bcast_S2160_S2160x1_0 (select (cmpi .slt (res_main_v944 V) (broadcastInDim S2160 ![] bcast_S_S2160
      (constantI S_ 32 0#32))) (addi (res_main_v944 V) (broadcastInDim S2160 ![] bcast_S_S2160 (constantI S_ 32 32768#32))) (res_main_v944 V)) :
      IVec S2160x1 32) (ix2 (spanAt b' r o) (0 : Fin 1))).toInt = (goal b' r o : Int) := fun b' r o => by
    rw [select_place _ _ _ (v944_at V b' r o) (goal_lt b' r o)]
    have := goal_lt b' r o
    simp only [BitVec.toInt_eq_toNat_cond, BitVec.toNat_ofNat]
    omega
  have hk : (∃ n : Fin 2160, ((broadcastInDim S2160x1 ![0] bcast_S2160_S2160x1_0 (select (cmpi .slt (res_main_v944 V) (broadcastInDim S2160 ![] bcast_S_S2160
      (constantI S_ 32 0#32))) (addi (res_main_v944 V) (broadcastInDim S2160 ![] bcast_S_S2160 (constantI S_ 32 32768#32))) (res_main_v944 V)) :
      IVec S2160x1 32) (ix2 n (0 : Fin 1))).toInt = ((b.val * 8192 + t.val : Nat) : Int)) ↔ Masked b t.val := by
    rw [← goal_iff]
    constructor
    · rintro ⟨n, hn⟩
      obtain ⟨b', r, o, rfl⟩ := spanAt_surjective n
      exact ⟨b', r, o, Int.ofNat.inj ((hp b' r o).symm.trans hn)⟩
    · rintro ⟨b', r, o, h⟩
      exact ⟨spanAt b' r o, (hp b' r o).trans (congrArg Nat.cast h)⟩
  have hall := hm.trans hk
  change _ = BitVec.ofBool (decide (Masked b t.val))
  have two : ∀ x : BitVec 1, x = BitVec.ofBool (decide (x = 1#1)) := by decide
  refine (two _).trans (congrArg BitVec.ofBool (decide_eq_decide.2 hall))

end Cert.Proof

end
-- ==== Proof.Algebraic.lean ====
/- The value claim: the kernel and the reference both mark the masked positions. -/
module

public import proofs.«01_k».proof.Defs
public import proofs.«01_k».proof.Proof.KernelValue
public import proofs.«01_k».proof.Proof.RefValue

@[expose] public section

noncomputable section

namespace Cert.Proof

open Idealize.ShloMosaic Idealize.ShloMosaic.TcCoe Idealize.SL.Sem

/-- The reference ends with the masked positions in its result and its argument as it was. -/
theorem reference_run (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r =>
      ∀ c : Dev ReferenceIdeal.nD, r.2.mem ((c.tc : Thread ReferenceIdeal.nD ReferenceIdeal.τ).loc ReferenceIdeal.main_v954) = answer
        ∧ r.2.mem ((c.tc : Thread ReferenceIdeal.nD ReferenceIdeal.τ).loc ReferenceIdeal.main_arg0)
          = m ((c.tc : Thread ReferenceIdeal.nD ReferenceIdeal.τ).loc ReferenceIdeal.main_arg0)) :=
  (θ_run ReferenceIdeal.defs _ _).mono (fun _ h c => ⟨(h c).1.trans (funext fun j => reference_value _ j), (h c).2⟩) (ReferenceIdeal.Value.run m ρ)

/-- The kernel and the reference end with equal results. -/
theorem algebraic_kernel_reference : Cert.algebraic_KernelIdeal_ReferenceIdeal := fun m g m' g' _ _ =>
  ⟨fun _ => answer, kernel_run m g, reference_run m' g'⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernel_ideal, frame_reference, trivial, algebraic_kernel_reference⟩

end Cert.Proof

end
